-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
-- ==== Pre_lengths_in_range.lean ====
abbrev S1024x200x128 : Shape := ⟨3, ![1024, 200, 128]⟩
abbrev S1024 : Shape := ⟨1, ![1024]⟩
abbrev S200x128 : Shape := ⟨2, ![200, 128]⟩
abbrev S128 : Shape := ⟨1, ![128]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S2x512x128 : Shape := ⟨3, ![2, 512, 128]⟩
abbrev S2x512 : Shape := ⟨2, ![2, 512]⟩
abbrev S2x128x512 : Shape := ⟨3, ![2, 128, 512]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x200x128 .f32) (main_arg1 : IVec S1024 32) (main_arg2 : FVec F S200x128 .f32) (main_arg3 : FVec F S128 .f32) (main_arg4 : FVec F S128 .f32) (main_arg5 : FVec F S2x384x128 .f32) (main_arg6 : FVec F S2x384 .f32) (main_arg7 : FVec F S2x128x128 .f32) (main_arg8 : FVec F S2x128 .f32) (main_arg9 : FVec F S2x128 .f32) (main_arg10 : FVec F S2x128 .f32) (main_arg11 : FVec F S2x512x128 .f32) (main_arg12 : FVec F S2x512 .f32) (main_arg13 : FVec F S2x128x512 .f32) (main_arg14 : FVec F S2x128 .f32) (main_arg15 : FVec F S2x128 .f32) (main_arg16 : FVec F S2x128 .f32) : IVec S_ 1 :=
  let main_c : IVec S_ 32 := constantI S_ 32 1#32
  let main_v0 : IVec S1024 32 := broadcastInDim S1024 ![] bcast_S_S1024 main_c
  let main_v1 : IVec S1024 1 := cmpi .sge main_arg1 main_v0
  let main_c_0 : IVec S_ 32 := constantI S_ 32 200#32
  let main_v2 : IVec S1024 32 := broadcastInDim S1024 ![] bcast_S_S1024 main_c_0
  let main_v3 : IVec S1024 1 := cmpi .sle main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x200x128 : Shape := ⟨3, ![1024, 200, 128]⟩
abbrev S1024 : Shape := ⟨1, ![1024]⟩
abbrev S200x128 : Shape := ⟨2, ![200, 128]⟩
abbrev S128 : Shape := ⟨1, ![128]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S2x512x128 : Shape := ⟨3, ![2, 512, 128]⟩
abbrev S2x512 : Shape := ⟨2, ![2, 512]⟩
abbrev S2x128x512 : Shape := ⟨3, ![2, 128, 512]⟩
abbrev S2x128x384 : Shape := ⟨3, ![2, 128, 384]⟩
abbrev S1x128 : Shape := ⟨2, ![1, 128]⟩
abbrev S1024x1x128 : Shape := ⟨3, ![1024, 1, 128]⟩
abbrev S1x200x128 : Shape := ⟨3, ![1, 200, 128]⟩
abbrev S1x1x128 : Shape := ⟨3, ![1, 1, 128]⟩
abbrev S1 : Shape := ⟨1, ![1]⟩
abbrev S200 : Shape := ⟨1, ![200]⟩
abbrev S200x1 : Shape := ⟨2, ![200, 1]⟩
abbrev S200x200 : Shape := ⟨2, ![200, 200]⟩
abbrev S1x128x384 : Shape := ⟨3, ![1, 128, 384]⟩
abbrev S128x384 : Shape := ⟨2, ![128, 384]⟩
abbrev S200x384 : Shape := ⟨2, ![200, 384]⟩
abbrev S1x384 : Shape := ⟨2, ![1, 384]⟩
abbrev S384 : Shape := ⟨1, ![384]⟩
abbrev S200x16 : Shape := ⟨2, ![200, 16]⟩
abbrev S1x128x128 : Shape := ⟨3, ![1, 128, 128]⟩
abbrev S128x128 : Shape := ⟨2, ![128, 128]⟩
abbrev S1x128x512 : Shape := ⟨3, ![1, 128, 512]⟩
abbrev S128x512 : Shape := ⟨2, ![128, 512]⟩
abbrev S200x512 : Shape := ⟨2, ![200, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S1024x128 : Shape := ⟨2, ![1024, 128]⟩

abbrev nBuf : Space → Nat
  | .hbm => 24
  | .vmem => 19
  | .smem => 1
  | _ => 0

abbrev bufTy : (tb : Table) → Fin (tcTables nBuf tb) → BufTy
  | .hbm, ⟨0, _⟩ => ⟨S1024x200x128, .f32⟩
  | .hbm, ⟨1, _⟩ => ⟨S200x128, .f32⟩
  | .hbm, ⟨2, _⟩ => ⟨S128, .f32⟩
  | .hbm, ⟨3, _⟩ => ⟨S128, .f32⟩
  | .hbm, ⟨4, _⟩ => ⟨S2x384x128, .f32⟩
  | .hbm, ⟨5, _⟩ => ⟨S2x384, .f32⟩
  | .hbm, ⟨6, _⟩ => ⟨S2x128x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S2x512x128, .f32⟩
  | .hbm, ⟨11, _⟩ => ⟨S2x512, .f32⟩
  | .hbm, ⟨12, _⟩ => ⟨S2x128x512, .f32⟩
  | .hbm, ⟨13, _⟩ => ⟨S2x128, .f32⟩
  | .hbm, ⟨14, _⟩ => ⟨S2x128, .f32⟩
  | .hbm, ⟨15, _⟩ => ⟨S2x128, .f32⟩
  | .hbm, ⟨16, _⟩ => ⟨S2x128x384, .f32⟩
  | .hbm, ⟨17, _⟩ => ⟨S2x128x128, .f32⟩
  | .hbm, ⟨18, _⟩ => ⟨S2x128x512, .f32⟩
  | .hbm, ⟨19, _⟩ => ⟨S2x512x128, .f32⟩
  | .hbm, ⟨20, _⟩ => ⟨S1x128, .f32⟩
  | .hbm, ⟨21, _⟩ => ⟨S1x128, .f32⟩
  | .hbm, ⟨22, _⟩ => ⟨S1024x1x128, .f32⟩
  | .hbm, ⟨23, _⟩ => ⟨S1024x128, .f32⟩
  | .local _ .vmem, ⟨0, _⟩ => ⟨S1x200x128, .f32⟩
  | .local _ .vmem, ⟨1, _⟩ => ⟨S1x200x128, .f32⟩
  | .local _ .vmem, ⟨2, _⟩ => ⟨S200x128, .f32⟩
  | .local _ .vmem, ⟨3, _⟩ => ⟨S1x128, .f32⟩
  | .local _ .vmem, ⟨4, _⟩ => ⟨S1x128, .f32⟩
  | .local _ .vmem, ⟨5, _⟩ => ⟨S2x128x384, .f32⟩
  | .local _ .vmem, ⟨6, _⟩ => ⟨S2x384, .f32⟩
  | .local _ .vmem, ⟨7, _⟩ => ⟨S2x128x128, .f32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S2x128x512, .f32⟩
  | .local _ .vmem, ⟨12, _⟩ => ⟨S2x512, .f32⟩
  | .local _ .vmem, ⟨13, _⟩ => ⟨S2x512x128, .f32⟩
  | .local _ .vmem, ⟨14, _⟩ => ⟨S2x128, .f32⟩
  | .local _ .vmem, ⟨15, _⟩ => ⟨S2x128, .f32⟩
  | .local _ .vmem, ⟨16, _⟩ => ⟨S2x128, .f32⟩
  | .local _ .vmem, ⟨17, _⟩ => ⟨S1x1x128, .f32⟩
  | .local _ .vmem, ⟨18, _⟩ => ⟨S1x1x128, .f32⟩
  | .local _ .smem, ⟨0, _⟩ => ⟨S1024, .i32⟩
  | _, _ => ⟨S1024x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S1024x200x128 : Shape := ⟨3, ![1024, 200, 128]⟩
abbrev S1024 : Shape := ⟨1, ![1024]⟩
abbrev S200x128 : Shape := ⟨2, ![200, 128]⟩
abbrev S128 : Shape := ⟨1, ![128]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S2x512x128 : Shape := ⟨3, ![2, 512, 128]⟩
abbrev S2x512 : Shape := ⟨2, ![2, 512]⟩
abbrev S2x128x512 : Shape := ⟨3, ![2, 128, 512]⟩
abbrev S200 : Shape := ⟨1, ![200]⟩
abbrev S1x200x128 : Shape := ⟨3, ![1, 200, 128]⟩
abbrev S_ : Shape := ⟨0, ![]⟩
abbrev S1024x200 : Shape := ⟨2, ![1024, 200]⟩
abbrev S1024x200x1 : Shape := ⟨3, ![1024, 200, 1]⟩
abbrev S1x1x128 : Shape := ⟨3, ![1, 1, 128]⟩
abbrev S200x200 : Shape := ⟨2, ![200, 200]⟩
abbrev S1x200 : Shape := ⟨2, ![1, 200]⟩
abbrev S1024x1 : Shape := ⟨2, ![1024, 1]⟩
abbrev S1x200x200 : Shape := ⟨3, ![1, 200, 200]⟩
abbrev S1024x1x200 : Shape := ⟨3, ![1024, 1, 200]⟩
abbrev S1024x200x200 : Shape := ⟨3, ![1024, 200, 200]⟩
abbrev S1024x1x200x200 : Shape := ⟨4, ![1024, 1, 200, 200]⟩
abbrev S1x384x128 : Shape := ⟨3, ![1, 384, 128]⟩
abbrev S384x128 : Shape := ⟨2, ![384, 128]⟩
abbrev S128x384 : Shape := ⟨2, ![128, 384]⟩
abbrev S1024x200x384 : Shape := ⟨3, ![1024, 200, 384]⟩
abbrev S1x384 : Shape := ⟨2, ![1, 384]⟩
abbrev S384 : Shape := ⟨1, ![384]⟩
abbrev S1x1x384 : Shape := ⟨3, ![1, 1, 384]⟩
abbrev S1024x200x8x16 : Shape := ⟨4, ![1024, 200, 8, 16]⟩
abbrev S1024x8x200x16 : Shape := ⟨4, ![1024, 8, 200, 16]⟩
abbrev S1024x8x16x200 : Shape := ⟨4, ![1024, 8, 16, 200]⟩
abbrev S1024x8x200x200 : Shape := ⟨4, ![1024, 8, 200, 200]⟩
abbrev S1024x8x200 : Shape := ⟨3, ![1024, 8, 200]⟩
abbrev S1024x8x200x1 : Shape := ⟨4, ![1024, 8, 200, 1]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S512x128 : Shape := ⟨2, ![512, 128]⟩
abbrev S128x512 : Shape := ⟨2, ![128, 512]⟩
abbrev S1024x200x512 : Shape := ⟨3, ![1024, 200, 512]⟩
abbrev S1x512 : Shape := ⟨2, ![1, 512]⟩
abbrev S512 : Shape := ⟨1, ![512]⟩
abbrev S1x1x512 : Shape := ⟨3, ![1, 1, 512]⟩
abbrev S1x128x512 : Shape := ⟨3, ![1, 128, 512]⟩
abbrev S1024x2 : Shape := ⟨2, ![1024, 2]⟩
abbrev S1024x128 : Shape := ⟨2, ![1024, 128]⟩

abbrev nBuf : Space → Nat
  | .hbm => 454
  | .vmem => 0
  | .smem => 0
  | _ => 0

abbrev hbmTy0_0 (i : Nat) : BufTy := match i % 128 with
  | 0 => ⟨S1024x200x128, .f32⟩
  | 1 => ⟨S1024, .i32⟩
  | 2 => ⟨S200x128, .f32⟩
  | 3 => ⟨S128, .f32⟩
  | 4 => ⟨S128, .f32⟩
  | 5 => ⟨S2x384x128, .f32⟩
  | 6 => ⟨S2x384, .f32⟩
  | 7 => ⟨S2x128x128, .f32⟩
  | 8 => ⟨S2x128, .f32⟩
  | 9 => ⟨S2x128, .f32⟩
  | 10 => ⟨S2x128, .f32⟩
  | 11 => ⟨S2x512x128, .f32⟩
  | 12 => ⟨S2x512, .f32⟩
  | 13 => ⟨S2x128x512, .f32⟩
  | 14 => ⟨S2x128, .f32⟩
  | 15 => ⟨S2x128, .f32⟩
  | 16 => ⟨S2x128, .f32⟩
  | 17 => ⟨S200, .i32⟩
  | 18 => ⟨S1x200x128, .f32⟩
  | 19 => ⟨S1024x200x128, .f32⟩
  | 20 => ⟨S1024x200x128, .f32⟩
  | 21 => ⟨S_, .f32⟩
  | 22 => ⟨S1024x200, .f32⟩
  | 23 => ⟨S1024x200x1, .f32⟩
  | 24 => ⟨S_, .f32⟩
  | 25 => ⟨S1024x200x1, .f32⟩
  | 26 => ⟨S1024x200x1, .f32⟩
  | 27 => ⟨S_, .i32⟩
  | 28 => ⟨S_, .f32⟩
  | 29 => ⟨S1024x200, .f32⟩
  | 30 => ⟨S1024x200x1, .f32⟩
  | 31 => ⟨S_, .f32⟩
  | 32 => ⟨S1024x200x1, .f32⟩
  | 33 => ⟨S1024x200x1, .f32⟩
  | 34 => ⟨S1024x200x128, .f32⟩
  | 35 => ⟨S1024x200x128, .f32⟩
  | 36 => ⟨S1024x200x128, .f32⟩
  | 37 => ⟨S_, .f32⟩
  | 38 => ⟨S_, .f32⟩
  | 39 => ⟨S_, .f32⟩
  | 40 => ⟨S_, .f32⟩
  | 41 => ⟨S1024x200, .f32⟩
  | 42 => ⟨S1024x200x1, .f32⟩
  | 43 => ⟨S1024x200x1, .f32⟩
  | 44 => ⟨S1024x200x1, .f32⟩
  | 45 => ⟨S_, .f32⟩
  | 46 => ⟨S_, .i1⟩
  | 47 => ⟨S_, .f32⟩
  | 48 => ⟨S_, .f32⟩
  | 49 => ⟨S1024x200x1, .f32⟩
  | 50 => ⟨S1024x200x1, .f32⟩
  | 51 => ⟨S1024x200x128, .f32⟩
  | 52 => ⟨S1024x200x128, .f32⟩
  | 53 => ⟨S_, .f32⟩
  | 54 => ⟨S1024x200x1, .f32⟩
  | 55 => ⟨S1024x200x1, .f32⟩
  | 56 => ⟨S1024x200x1, .f32⟩
  | 57 => ⟨S1024x200x128, .f32⟩
  | 58 => ⟨S1024x200x128, .f32⟩
  | 59 => ⟨S1x1x128, .f32⟩
  | 60 => ⟨S1024x200x128, .f32⟩
  | 61 => ⟨S1024x200x128, .f32⟩
  | 62 => ⟨S1x1x128, .f32⟩
  | 63 => ⟨S1024x200x128, .f32⟩
  | 64 => ⟨S1024x200x128, .f32⟩
  | 65 => ⟨S_, .i1⟩
  | 66 => ⟨S200x200, .i1⟩
  | 67 => ⟨S200x200, .i32⟩
  | 68 => ⟨S_, .i32⟩
  | 69 => ⟨S200x200, .i32⟩
  | 70 => ⟨S200x200, .i32⟩
  | 71 => ⟨S200x200, .i32⟩
  | 72 => ⟨S200x200, .i1⟩
  | 73 => ⟨S_, .i1⟩
  | 74 => ⟨S200x200, .i1⟩
  | 75 => ⟨S200x200, .i1⟩
  | 76 => ⟨S1x200, .i32⟩
  | 77 => ⟨S1024x1, .i32⟩
  | 78 => ⟨S1024x200, .i32⟩
  | 79 => ⟨S1024x200, .i32⟩
  | 80 => ⟨S1024x200, .i1⟩
  | 81 => ⟨S1x200x200, .i1⟩
  | 82 => ⟨S1024x1x200, .i1⟩
  | 83 => ⟨S1024x200x200, .i1⟩
  | 84 => ⟨S1024x200x200, .i1⟩
  | 85 => ⟨S1024x200x200, .i1⟩
  | 86 => ⟨S_, .f32⟩
  | 87 => ⟨S_, .f32⟩
  | 88 => ⟨S1024x200x200, .f32⟩
  | 89 => ⟨S1024x200x200, .f32⟩
  | 90 => ⟨S1024x200x200, .f32⟩
  | 91 => ⟨S1024x1x200x200, .f32⟩
  | 92 => ⟨S1x384x128, .f32⟩
  | 93 => ⟨S384x128, .f32⟩
  | 94 => ⟨S128x384, .f32⟩
  | 95 => ⟨S1024x200x384, .f32⟩
  | 96 => ⟨S1x384, .f32⟩
  | 97 => ⟨S384, .f32⟩
  | 98 => ⟨S1x1x384, .f32⟩
  | 99 => ⟨S1024x200x384, .f32⟩
  | 100 => ⟨S1024x200x384, .f32⟩
  | 101 => ⟨S1024x200x128, .f32⟩
  | 102 => ⟨S1024x200x128, .f32⟩
  | 103 => ⟨S1024x200x128, .f32⟩
  | 104 => ⟨S1024x200x8x16, .f32⟩
  | 105 => ⟨S1024x8x200x16, .f32⟩
  | 106 => ⟨S1024x200x8x16, .f32⟩
  | 107 => ⟨S1024x8x200x16, .f32⟩
  | 108 => ⟨S1024x200x8x16, .f32⟩
  | 109 => ⟨S1024x8x200x16, .f32⟩
  | 110 => ⟨S1024x8x16x200, .f32⟩
  | 111 => ⟨S1024x8x200x200, .f32⟩
  | 112 => ⟨S_, .f32⟩
  | 113 => ⟨S1024x8x200x200, .f32⟩
  | 114 => ⟨S1024x8x200x200, .f32⟩
  | 115 => ⟨S1024x8x200x200, .f32⟩
  | 116 => ⟨S1024x8x200x200, .f32⟩
  | 117 => ⟨S_, .f32⟩
  | 118 => ⟨S1024x8x200, .f32⟩
  | 119 => ⟨S_, .f32⟩
  | 120 => ⟨S1024x8x200, .f32⟩
  | 121 => ⟨S1024x8x200, .f32⟩
  | 122 => ⟨S1024x8x200x1, .f32⟩
  | 123 => ⟨S1024x8x200x200, .f32⟩
  | 124 => ⟨S1024x8x200x200, .f32⟩
  | 125 => ⟨S1024x8x200x200, .f32⟩
  | 126 => ⟨S_, .f32⟩
  | 127 => ⟨S1024x8x200, .f32⟩
  | _ => ⟨S1024x200x128, .f32⟩

abbrev hbmTy0_1 (i : Nat) : BufTy := match i % 128 with
  | 0 => ⟨S1024x8x200x1, .f32⟩
  | 1 => ⟨S1024x8x200x200, .f32⟩
  | 2 => ⟨S1024x8x200x200, .f32⟩
  | 3 => ⟨S1024x8x200x16, .f32⟩
  | 4 => ⟨S1024x200x8x16, .f32⟩
  | 5 => ⟨S1024x200x128, .f32⟩
  | 6 => ⟨S1x128x128, .f32⟩
  | 7 => ⟨S128x128, .f32⟩
  | 8 => ⟨S128x128, .f32⟩
  | 9 => ⟨S1024x200x128, .f32⟩
  | 10 => ⟨S1x128, .f32⟩
  | 11 => ⟨S128, .f32⟩
  | 12 => ⟨S1x1x128, .f32⟩
  | 13 => ⟨S1024x200x128, .f32⟩
  | 14 => ⟨S1024x200x128, .f32⟩
  | 15 => ⟨S1024x200x128, .f32⟩
  | 16 => ⟨S1x128, .f32⟩
  | 17 => ⟨S128, .f32⟩
  | 18 => ⟨S1x128, .f32⟩
  | 19 => ⟨S128, .f32⟩
  | 20 => ⟨S_, .f32⟩
  | 21 => ⟨S1024x200, .f32⟩
  | 22 => ⟨S1024x200x1, .f32⟩
  | 23 => ⟨S_, .f32⟩
  | 24 => ⟨S1024x200x1, .f32⟩
  | 25 => ⟨S1024x200x1, .f32⟩
  | 26 => ⟨S_, .i32⟩
  | 27 => ⟨S_, .f32⟩
  | 28 => ⟨S1024x200, .f32⟩
  | 29 => ⟨S1024x200x1, .f32⟩
  | 30 => ⟨S_, .f32⟩
  | 31 => ⟨S1024x200x1, .f32⟩
  | 32 => ⟨S1024x200x1, .f32⟩
  | 33 => ⟨S1024x200x128, .f32⟩
  | 34 => ⟨S1024x200x128, .f32⟩
  | 35 => ⟨S1024x200x128, .f32⟩
  | 36 => ⟨S_, .f32⟩
  | 37 => ⟨S_, .f32⟩
  | 38 => ⟨S_, .f32⟩
  | 39 => ⟨S_, .f32⟩
  | 40 => ⟨S1024x200, .f32⟩
  | 41 => ⟨S1024x200x1, .f32⟩
  | 42 => ⟨S1024x200x1, .f32⟩
  | 43 => ⟨S1024x200x1, .f32⟩
  | 44 => ⟨S_, .f32⟩
  | 45 => ⟨S_, .i1⟩
  | 46 => ⟨S_, .f32⟩
  | 47 => ⟨S_, .f32⟩
  | 48 => ⟨S1024x200x1, .f32⟩
  | 49 => ⟨S1024x200x1, .f32⟩
  | 50 => ⟨S1024x200x128, .f32⟩
  | 51 => ⟨S1024x200x128, .f32⟩
  | 52 => ⟨S_, .f32⟩
  | 53 => ⟨S1024x200x1, .f32⟩
  | 54 => ⟨S1024x200x1, .f32⟩
  | 55 => ⟨S1024x200x1, .f32⟩
  | 56 => ⟨S1024x200x128, .f32⟩
  | 57 => ⟨S1024x200x128, .f32⟩
  | 58 => ⟨S1x1x128, .f32⟩
  | 59 => ⟨S1024x200x128, .f32⟩
  | 60 => ⟨S1024x200x128, .f32⟩
  | 61 => ⟨S1x1x128, .f32⟩
  | 62 => ⟨S1024x200x128, .f32⟩
  | 63 => ⟨S1024x200x128, .f32⟩
  | 64 => ⟨S1x512x128, .f32⟩
  | 65 => ⟨S512x128, .f32⟩
  | 66 => ⟨S128x512, .f32⟩
  | 67 => ⟨S1024x200x512, .f32⟩
  | 68 => ⟨S1x512, .f32⟩
  | 69 => ⟨S512, .f32⟩
  | 70 => ⟨S1x1x512, .f32⟩
  | 71 => ⟨S1024x200x512, .f32⟩
  | 72 => ⟨S1024x200x512, .f32⟩
  | 73 => ⟨S_, .f32⟩
  | 74 => ⟨S1024x200x512, .f32⟩
  | 75 => ⟨S1024x200x512, .f32⟩
  | 76 => ⟨S1x128x512, .f32⟩
  | 77 => ⟨S128x512, .f32⟩
  | 78 => ⟨S512x128, .f32⟩
  | 79 => ⟨S1024x200x128, .f32⟩
  | 80 => ⟨S1x128, .f32⟩
  | 81 => ⟨S128, .f32⟩
  | 82 => ⟨S1x1x128, .f32⟩
  | 83 => ⟨S1024x200x128, .f32⟩
  | 84 => ⟨S1024x200x128, .f32⟩
  | 85 => ⟨S1024x200x128, .f32⟩
  | 86 => ⟨S1x128, .f32⟩
  | 87 => ⟨S128, .f32⟩
  | 88 => ⟨S1x128, .f32⟩
  | 89 => ⟨S128, .f32⟩
  | 90 => ⟨S_, .f32⟩
  | 91 => ⟨S1024x200, .f32⟩
  | 92 => ⟨S1024x200x1, .f32⟩
  | 93 => ⟨S_, .f32⟩
  | 94 => ⟨S1024x200x1, .f32⟩
  | 95 => ⟨S1024x200x1, .f32⟩
  | 96 => ⟨S_, .i32⟩
  | 97 => ⟨S_, .f32⟩
  | 98 => ⟨S1024x200, .f32⟩
  | 99 => ⟨S1024x200x1, .f32⟩
  | 100 => ⟨S_, .f32⟩
  | 101 => ⟨S1024x200x1, .f32⟩
  | 102 => ⟨S1024x200x1, .f32⟩
  | 103 => ⟨S1024x200x128, .f32⟩
  | 104 => ⟨S1024x200x128, .f32⟩
  | 105 => ⟨S1024x200x128, .f32⟩
  | 106 => ⟨S_, .f32⟩
  | 107 => ⟨S_, .f32⟩
  | 108 => ⟨S_, .f32⟩
  | 109 => ⟨S_, .f32⟩
  | 110 => ⟨S1024x200, .f32⟩
  | 111 => ⟨S1024x200x1, .f32⟩
  | 112 => ⟨S1024x200x1, .f32⟩
  | 113 => ⟨S1024x200x1, .f32⟩
  | 114 => ⟨S_, .f32⟩
  | 115 => ⟨S_, .i1⟩
  | 116 => ⟨S_, .f32⟩
  | 117 => ⟨S_, .f32⟩
  | 118 => ⟨S1024x200x1, .f32⟩
  | 119 => ⟨S1024x200x1, .f32⟩
  | 120 => ⟨S1024x200x128, .f32⟩
  | 121 => ⟨S1024x200x128, .f32⟩
  | 122 => ⟨S_, .f32⟩
  | 123 => ⟨S1024x200x1, .f32⟩
  | 124 => ⟨S1024x200x1, .f32⟩
  | 125 => ⟨S1024x200x1, .f32⟩
  | 126 => ⟨S1024x200x128, .f32⟩
  | 127 => ⟨S1024x200x128, .f32⟩
  | _ => ⟨S1024x200x128, .f32⟩

abbrev hbmTy0_2 (i : Nat) : BufTy := match i % 128 with
  | 0 => ⟨S1x1x128, .f32⟩
  | 1 => ⟨S1024x200x128, .f32⟩
  | 2 => ⟨S1024x200x128, .f32⟩
  | 3 => ⟨S1x1x128, .f32⟩
  | 4 => ⟨S1024x200x128, .f32⟩
  | 5 => ⟨S1024x200x128, .f32⟩
  | 6 => ⟨S1x384x128, .f32⟩
  | 7 => ⟨S384x128, .f32⟩
  | 8 => ⟨S128x384, .f32⟩
  | 9 => ⟨S1024x200x384, .f32⟩
  | 10 => ⟨S1x384, .f32⟩
  | 11 => ⟨S384, .f32⟩
  | 12 => ⟨S1x1x384, .f32⟩
  | 13 => ⟨S1024x200x384, .f32⟩
  | 14 => ⟨S1024x200x384, .f32⟩
  | 15 => ⟨S1024x200x128, .f32⟩
  | 16 => ⟨S1024x200x128, .f32⟩
  | 17 => ⟨S1024x200x128, .f32⟩
  | 18 => ⟨S1024x200x8x16, .f32⟩
  | 19 => ⟨S1024x8x200x16, .f32⟩
  | 20 => ⟨S1024x200x8x16, .f32⟩
  | 21 => ⟨S1024x8x200x16, .f32⟩
  | 22 => ⟨S1024x200x8x16, .f32⟩
  | 23 => ⟨S1024x8x200x16, .f32⟩
  | 24 => ⟨S1024x8x16x200, .f32⟩
  | 25 => ⟨S1024x8x200x200, .f32⟩
  | 26 => ⟨S_, .f32⟩
  | 27 => ⟨S1024x8x200x200, .f32⟩
  | 28 => ⟨S1024x8x200x200, .f32⟩
  | 29 => ⟨S1024x8x200x200, .f32⟩
  | 30 => ⟨S1024x8x200x200, .f32⟩
  | 31 => ⟨S_, .f32⟩
  | 32 => ⟨S1024x8x200, .f32⟩
  | 33 => ⟨S_, .f32⟩
  | 34 => ⟨S1024x8x200, .f32⟩
  | 35 => ⟨S1024x8x200, .f32⟩
  | 36 => ⟨S1024x8x200x1, .f32⟩
  | 37 => ⟨S1024x8x200x200, .f32⟩
  | 38 => ⟨S1024x8x200x200, .f32⟩
  | 39 => ⟨S1024x8x200x200, .f32⟩
  | 40 => ⟨S_, .f32⟩
  | 41 => ⟨S1024x8x200, .f32⟩
  | 42 => ⟨S1024x8x200x1, .f32⟩
  | 43 => ⟨S1024x8x200x200, .f32⟩
  | 44 => ⟨S1024x8x200x200, .f32⟩
  | 45 => ⟨S1024x8x200x16, .f32⟩
  | 46 => ⟨S1024x200x8x16, .f32⟩
  | 47 => ⟨S1024x200x128, .f32⟩
  | 48 => ⟨S1x128x128, .f32⟩
  | 49 => ⟨S128x128, .f32⟩
  | 50 => ⟨S128x128, .f32⟩
  | 51 => ⟨S1024x200x128, .f32⟩
  | 52 => ⟨S1x128, .f32⟩
  | 53 => ⟨S128, .f32⟩
  | 54 => ⟨S1x1x128, .f32⟩
  | 55 => ⟨S1024x200x128, .f32⟩
  | 56 => ⟨S1024x200x128, .f32⟩
  | 57 => ⟨S1024x200x128, .f32⟩
  | 58 => ⟨S1x128, .f32⟩
  | 59 => ⟨S128, .f32⟩
  | 60 => ⟨S1x128, .f32⟩
  | 61 => ⟨S128, .f32⟩
  | 62 => ⟨S_, .f32⟩
  | 63 => ⟨S1024x200, .f32⟩
  | 64 => ⟨S1024x200x1, .f32⟩
  | 65 => ⟨S_, .f32⟩
  | 66 => ⟨S1024x200x1, .f32⟩
  | 67 => ⟨S1024x200x1, .f32⟩
  | 68 => ⟨S_, .i32⟩
  | 69 => ⟨S_, .f32⟩
  | 70 => ⟨S1024x200, .f32⟩
  | 71 => ⟨S1024x200x1, .f32⟩
  | 72 => ⟨S_, .f32⟩
  | 73 => ⟨S1024x200x1, .f32⟩
  | 74 => ⟨S1024x200x1, .f32⟩
  | 75 => ⟨S1024x200x128, .f32⟩
  | 76 => ⟨S1024x200x128, .f32⟩
  | 77 => ⟨S1024x200x128, .f32⟩
  | 78 => ⟨S_, .f32⟩
  | 79 => ⟨S_, .f32⟩
  | 80 => ⟨S_, .f32⟩
  | 81 => ⟨S_, .f32⟩
  | 82 => ⟨S1024x200, .f32⟩
  | 83 => ⟨S1024x200x1, .f32⟩
  | 84 => ⟨S1024x200x1, .f32⟩
  | 85 => ⟨S1024x200x1, .f32⟩
  | 86 => ⟨S_, .f32⟩
  | 87 => ⟨S_, .i1⟩
  | 88 => ⟨S_, .f32⟩
  | 89 => ⟨S_, .f32⟩
  | 90 => ⟨S1024x200x1, .f32⟩
  | 91 => ⟨S1024x200x1, .f32⟩
  | 92 => ⟨S1024x200x128, .f32⟩
  | 93 => ⟨S1024x200x128, .f32⟩
  | 94 => ⟨S_, .f32⟩
  | 95 => ⟨S1024x200x1, .f32⟩
  | 96 => ⟨S1024x200x1, .f32⟩
  | 97 => ⟨S1024x200x1, .f32⟩
  | 98 => ⟨S1024x200x128, .f32⟩
  | 99 => ⟨S1024x200x128, .f32⟩
  | 100 => ⟨S1x1x128, .f32⟩
  | 101 => ⟨S1024x200x128, .f32⟩
  | 102 => ⟨S1024x200x128, .f32⟩
  | 103 => ⟨S1x1x128, .f32⟩
  | 104 => ⟨S1024x200x128, .f32⟩
  | 105 => ⟨S1024x200x128, .f32⟩
  | 106 => ⟨S1x512x128, .f32⟩
  | 107 => ⟨S512x128, .f32⟩
  | 108 => ⟨S128x512, .f32⟩
  | 109 => ⟨S1024x200x512, .f32⟩
  | 110 => ⟨S1x512, .f32⟩
  | 111 => ⟨S512, .f32⟩
  | 112 => ⟨S1x1x512, .f32⟩
  | 113 => ⟨S1024x200x512, .f32⟩
  | 114 => ⟨S1024x200x512, .f32⟩
  | 115 => ⟨S_, .f32⟩
  | 116 => ⟨S1024x200x512, .f32⟩
  | 117 => ⟨S1024x200x512, .f32⟩
  | 118 => ⟨S1x128x512, .f32⟩
  | 119 => ⟨S128x512, .f32⟩
  | 120 => ⟨S512x128, .f32⟩
  | 121 => ⟨S1024x200x128, .f32⟩
  | 122 => ⟨S1x128, .f32⟩
  | 123 => ⟨S128, .f32⟩
  | 124 => ⟨S1x1x128, .f32⟩
  | 125 => ⟨S1024x200x128, .f32⟩
  | 126 => ⟨S1024x200x128, .f32⟩
  | 127 => ⟨S1024x200x128, .f32⟩
  | _ => ⟨S1024x200x128, .f32⟩

abbrev hbmTy0_3 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S1024x200, .f32⟩
  | 6 => ⟨S1024x200x1, .f32⟩
  | 7 => ⟨S_, .f32⟩
  | 8 => ⟨S1024x200x1, .f32⟩
  | 9 => ⟨S1024x200x1, .f32⟩
  | 10 => ⟨S_, .i32⟩
  | 11 => ⟨S_, .f32⟩
  | 12 => ⟨S1024x200, .f32⟩
  | 13 => ⟨S1024x200x1, .f32⟩
  | 14 => ⟨S_, .f32⟩
  | 15 => ⟨S1024x200x1, .f32⟩
  | 16 => ⟨S1024x200x1, .f32⟩
  | 17 => ⟨S1024x200x128, .f32⟩
  | 18 => ⟨S1024x200x128, .f32⟩
  | 19 => ⟨S1024x200x128, .f32⟩
  | 20 => ⟨S_, .f32⟩
  | 21 => ⟨S_, .f32⟩
  | 22 => ⟨S_, .f32⟩
  | 23 => ⟨S_, .f32⟩
  | 24 => ⟨S1024x200, .f32⟩
  | 25 => ⟨S1024x200x1, .f32⟩
  | 26 => ⟨S1024x200x1, .f32⟩
  | 27 => ⟨S1024x200x1, .f32⟩
  | 28 => ⟨S_, .f32⟩
  | 29 => ⟨S_, .i1⟩
  | 30 => ⟨S_, .f32⟩
  | 31 => ⟨S_, .f32⟩
  | 32 => ⟨S1024x200x1, .f32⟩
  | 33 => ⟨S1024x200x1, .f32⟩
  | 34 => ⟨S1024x200x128, .f32⟩
  | 35 => ⟨S1024x200x128, .f32⟩
  | 36 => ⟨S_, .f32⟩
  | 37 => ⟨S1024x200x1, .f32⟩
  | 38 => ⟨S1024x200x1, .f32⟩
  | 39 => ⟨S1024x200x1, .f32⟩
  | 40 => ⟨S1024x200x128, .f32⟩
  | 41 => ⟨S1024x200x128, .f32⟩
  | 42 => ⟨S1x1x128, .f32⟩
  | 43 => ⟨S1024x200x128, .f32⟩
  | 44 => ⟨S1024x200x128, .f32⟩
  | 45 => ⟨S1x1x128, .f32⟩
  | 46 => ⟨S1024x200x128, .f32⟩
  | 47 => ⟨S1024x200x128, .f32⟩
  | 48 => ⟨S1024, .i32⟩
  | 49 => ⟨S_, .i32⟩
  | 50 => ⟨S1024, .i32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1024x1, .i32⟩
  | 68 => ⟨S1024x2, .i32⟩
  | 69 => ⟨S1024x128, .f32⟩
  | _ => ⟨S1024x200x128, .f32⟩

abbrev hbmTy (i : Nat) : BufTy := match i / 128 with
  | 0 => hbmTy0_0 i
  | 1 => hbmTy0_1 i
  | 2 => hbmTy0_2 i
  | 3 => hbmTy0_3 i
  | _ => ⟨S1024x200x128, .f32⟩

abbrev bufTy : (tb : Table) → Fin (tcTables nBuf tb) → BufTy
  | .hbm, ⟨i, _⟩ => hbmTy i
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_c_2 : Ref sig .tc := ⟨.hbm, 65, rfl⟩
abbrev main_v22 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_0 : Ref sig .tc := ⟨.hbm, 73, rfl⟩
abbrev main_call1_v5 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_3 : Ref sig .tc := ⟨.hbm, 86, rfl⟩
abbrev main_cst_4 : Ref sig .tc := ⟨.hbm, 87, rfl⟩
abbrev main_call2_v0 : Ref sig .tc := ⟨.hbm, 88, rfl⟩
abbrev main_call2_v1 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_5 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_6 : Ref sig .tc := ⟨.hbm, 117, rfl⟩
abbrev main_v60 : Ref sig .tc := ⟨.hbm, 118, rfl⟩
abbrev main_cst_7 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_8 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_9 : Ref sig .tc := ⟨.hbm, 148, rfl⟩
abbrev main_v88 : Ref sig .tc := ⟨.hbm, 149, rfl⟩
abbrev main_v89 : Ref sig .tc := ⟨.hbm, 150, rfl⟩
abbrev main_cst_10 : Ref sig .tc := ⟨.hbm, 151, rfl⟩
abbrev main_v90 : Ref sig .tc := ⟨.hbm, 152, rfl⟩
abbrev main_v91 : Ref sig .tc := ⟨.hbm, 153, rfl⟩
abbrev main_c_11 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_cst_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_v7 : Ref sig .tc := ⟨.hbm, 164, rfl⟩
abbrev main_call3_cst_1 : Ref sig .tc := ⟨.hbm, 165, rfl⟩
abbrev main_call3_v8 : Ref sig .tc := ⟨.hbm, 166, rfl⟩
abbrev main_call3_cst_2 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_v12 : Ref sig .tc := ⟨.hbm, 171, rfl⟩
abbrev main_call3_cst_3 : Ref sig .tc := ⟨.hbm, 172, rfl⟩
abbrev main_call3_v13 : Ref sig .tc := ⟨.hbm, 173, rfl⟩
abbrev main_call3_cst_4 : Ref sig .tc := ⟨.hbm, 174, rfl⟩
abbrev main_call3_call0_v0 : Ref sig .tc := ⟨.hbm, 175, rfl⟩
abbrev main_call3_call0_v1 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_12 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_call4_cst : Ref sig .tc := ⟨.hbm, 201, rfl⟩
abbrev main_call4_v0 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_cst_13 : Ref sig .tc := ⟨.hbm, 218, rfl⟩
abbrev main_v130 : Ref sig .tc := ⟨.hbm, 219, rfl⟩
abbrev main_v131 : Ref sig .tc := ⟨.hbm, 220, rfl⟩
abbrev main_cst_14 : Ref sig .tc := ⟨.hbm, 221, rfl⟩
abbrev main_v132 : Ref sig .tc := ⟨.hbm, 222, rfl⟩
abbrev main_v133 : Ref sig .tc := ⟨.hbm, 223, rfl⟩
abbrev main_c_15 : Ref sig .tc := ⟨.hbm, 224, rfl⟩
abbrev main_call5_cst : Ref sig .tc := ⟨.hbm, 225, rfl⟩
abbrev main_call5_v0 : Ref sig .tc := ⟨.hbm, 226, rfl⟩
abbrev main_call5_v1 : Ref sig .tc := ⟨.hbm, 227, rfl⟩
abbrev main_call5_cst_0 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_v6 : Ref sig .tc := ⟨.hbm, 233, rfl⟩
abbrev main_call5_v7 : Ref sig .tc := ⟨.hbm, 234, rfl⟩
abbrev main_call5_cst_1 : Ref sig .tc := ⟨.hbm, 235, rfl⟩
abbrev main_call5_v8 : Ref sig .tc := ⟨.hbm, 236, rfl⟩
abbrev main_call5_cst_2 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_v12 : Ref sig .tc := ⟨.hbm, 241, rfl⟩
abbrev main_call5_cst_3 : Ref sig .tc := ⟨.hbm, 242, rfl⟩
abbrev main_call5_v13 : Ref sig .tc := ⟨.hbm, 243, rfl⟩
abbrev main_call5_cst_4 : Ref sig .tc := ⟨.hbm, 244, rfl⟩
abbrev main_call5_call0_v0 : Ref sig .tc := ⟨.hbm, 245, rfl⟩
abbrev main_call5_call0_v1 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_cst_16 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_cst_17 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_cst_18 : Ref sig .tc := ⟨.hbm, 287, rfl⟩
abbrev main_v172 : Ref sig .tc := ⟨.hbm, 288, rfl⟩
abbrev main_cst_19 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_cst_20 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_cst_21 : Ref sig .tc := ⟨.hbm, 318, rfl⟩
abbrev main_v200 : Ref sig .tc := ⟨.hbm, 319, rfl⟩
abbrev main_v201 : Ref sig .tc := ⟨.hbm, 320, rfl⟩
abbrev main_cst_22 : Ref sig .tc := ⟨.hbm, 321, rfl⟩
abbrev main_v202 : Ref sig .tc := ⟨.hbm, 322, rfl⟩
abbrev main_v203 : Ref sig .tc := ⟨.hbm, 323, rfl⟩
abbrev main_c_23 : Ref sig .tc := ⟨.hbm, 324, rfl⟩
abbrev main_call6_cst : Ref sig .tc := ⟨.hbm, 325, rfl⟩
abbrev main_call6_v0 : Ref sig .tc := ⟨.hbm, 326, rfl⟩
abbrev main_call6_v1 : Ref sig .tc := ⟨.hbm, 327, rfl⟩
abbrev main_call6_cst_0 : Ref sig .tc := ⟨.hbm, 328, rfl⟩
abbrev main_call6_v2 : Ref sig .tc := ⟨.hbm, 329, rfl⟩
abbrev main_call6_v3 : Ref sig .tc := ⟨.hbm, 330, rfl⟩
abbrev main_call6_v4 : Ref sig .tc := ⟨.hbm, 331, rfl⟩
abbrev main_call6_v5 : Ref sig .tc := ⟨.hbm, 332, rfl⟩
abbrev main_call6_v6 : Ref sig .tc := ⟨.hbm, 333, rfl⟩
abbrev main_call6_v7 : Ref sig .tc := ⟨.hbm, 334, rfl⟩
abbrev main_call6_cst_1 : Ref sig .tc := ⟨.hbm, 335, rfl⟩
abbrev main_call6_v8 : Ref sig .tc := ⟨.hbm, 336, rfl⟩
abbrev main_call6_cst_2 : Ref sig .tc := ⟨.hbm, 337, rfl⟩
abbrev main_call6_v9 : Ref sig .tc := ⟨.hbm, 338, rfl⟩
abbrev main_call6_v10 : Ref sig .tc := ⟨.hbm, 339, rfl⟩
abbrev main_call6_v11 : Ref sig .tc := ⟨.hbm, 340, rfl⟩
abbrev main_call6_v12 : Ref sig .tc := ⟨.hbm, 341, rfl⟩
abbrev main_call6_cst_3 : Ref sig .tc := ⟨.hbm, 342, rfl⟩
abbrev main_call6_v13 : Ref sig .tc := ⟨.hbm, 343, rfl⟩
abbrev main_call6_cst_4 : Ref sig .tc := ⟨.hbm, 344, rfl⟩
abbrev main_call6_call0_v0 : Ref sig .tc := ⟨.hbm, 345, rfl⟩
abbrev main_call6_call0_v1 : Ref sig .tc := ⟨.hbm, 346, rfl⟩
abbrev main_v204 : Ref sig .tc := ⟨.hbm, 347, rfl⟩
abbrev main_v205 : Ref sig .tc := ⟨.hbm, 348, rfl⟩
abbrev main_v206 : Ref sig .tc := ⟨.hbm, 349, rfl⟩
abbrev main_cst_24 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_v217 : Ref sig .tc := ⟨.hbm, 361, rfl⟩
abbrev main_v218 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_call7_cst : Ref sig .tc := ⟨.hbm, 371, rfl⟩
abbrev main_call7_v0 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_v230 : Ref sig .tc := ⟨.hbm, 376, rfl⟩
abbrev main_v231 : Ref sig .tc := ⟨.hbm, 377, rfl⟩
abbrev main_v232 : Ref sig .tc := ⟨.hbm, 378, rfl⟩
abbrev main_v233 : Ref sig .tc := ⟨.hbm, 379, rfl⟩
abbrev main_v234 : Ref sig .tc := ⟨.hbm, 380, rfl⟩
abbrev main_v235 : Ref sig .tc := ⟨.hbm, 381, rfl⟩
abbrev main_v236 : Ref sig .tc := ⟨.hbm, 382, rfl⟩
abbrev main_v237 : Ref sig .tc := ⟨.hbm, 383, rfl⟩
abbrev main_v238 : Ref sig .tc := ⟨.hbm, 384, rfl⟩
abbrev main_v239 : Ref sig .tc := ⟨.hbm, 385, rfl⟩
abbrev main_v240 : Ref sig .tc := ⟨.hbm, 386, rfl⟩
abbrev main_v241 : Ref sig .tc := ⟨.hbm, 387, rfl⟩
abbrev main_cst_25 : Ref sig .tc := ⟨.hbm, 388, rfl⟩
abbrev main_v242 : Ref sig .tc := ⟨.hbm, 389, rfl⟩
abbrev main_v243 : Ref sig .tc := ⟨.hbm, 390, rfl⟩
abbrev main_cst_26 : Ref sig .tc := ⟨.hbm, 391, rfl⟩
abbrev main_v244 : Ref sig .tc := ⟨.hbm, 392, rfl⟩
abbrev main_v245 : Ref sig .tc := ⟨.hbm, 393, rfl⟩
abbrev main_c_27 : Ref sig .tc := ⟨.hbm, 394, rfl⟩
abbrev main_call8_cst : Ref sig .tc := ⟨.hbm, 395, rfl⟩
abbrev main_call8_v0 : Ref sig .tc := ⟨.hbm, 396, rfl⟩
abbrev main_call8_v1 : Ref sig .tc := ⟨.hbm, 397, rfl⟩
abbrev main_call8_cst_0 : Ref sig .tc := ⟨.hbm, 398, rfl⟩
abbrev main_call8_v2 : Ref sig .tc := ⟨.hbm, 399, rfl⟩
abbrev main_call8_v3 : Ref sig .tc := ⟨.hbm, 400, rfl⟩
abbrev main_call8_v4 : Ref sig .tc := ⟨.hbm, 401, rfl⟩
abbrev main_call8_v5 : Ref sig .tc := ⟨.hbm, 402, rfl⟩
abbrev main_call8_v6 : Ref sig .tc := ⟨.hbm, 403, rfl⟩
abbrev main_call8_v7 : Ref sig .tc := ⟨.hbm, 404, rfl⟩
abbrev main_call8_cst_1 : Ref sig .tc := ⟨.hbm, 405, rfl⟩
abbrev main_call8_v8 : Ref sig .tc := ⟨.hbm, 406, rfl⟩
abbrev main_call8_cst_2 : Ref sig .tc := ⟨.hbm, 407, rfl⟩
abbrev main_call8_v9 : Ref sig .tc := ⟨.hbm, 408, rfl⟩
abbrev main_call8_v10 : Ref sig .tc := ⟨.hbm, 409, rfl⟩
abbrev main_call8_v11 : Ref sig .tc := ⟨.hbm, 410, rfl⟩
abbrev main_call8_v12 : Ref sig .tc := ⟨.hbm, 411, rfl⟩
abbrev main_call8_cst_3 : Ref sig .tc := ⟨.hbm, 412, rfl⟩
abbrev main_call8_v13 : Ref sig .tc := ⟨.hbm, 413, rfl⟩
abbrev main_call8_cst_4 : Ref sig .tc := ⟨.hbm, 414, rfl⟩
abbrev main_call8_call0_v0 : Ref sig .tc := ⟨.hbm, 415, rfl⟩
abbrev main_call8_call0_v1 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_cst_28 : Ref sig .tc := ⟨.hbm, 420, rfl⟩
abbrev main_v249 : Ref sig .tc := ⟨.hbm, 421, rfl⟩
abbrev main_v250 : Ref sig .tc := ⟨.hbm, 422, rfl⟩
abbrev main_v251 : Ref sig .tc := ⟨.hbm, 423, rfl⟩
abbrev main_v252 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_v258 : Ref sig .tc := ⟨.hbm, 430, rfl⟩
abbrev main_v259 : Ref sig .tc := ⟨.hbm, 431, rfl⟩
abbrev main_v260 : Ref sig .tc := ⟨.hbm, 432, rfl⟩
abbrev main_c_29 : Ref sig .tc := ⟨.hbm, 433, rfl⟩
abbrev main_v261 : Ref sig .tc := ⟨.hbm, 434, rfl⟩
abbrev main_v262 : Ref sig .tc := ⟨.hbm, 435, rfl⟩
abbrev main_c_30 : Ref sig .tc := ⟨.hbm, 436, rfl⟩
abbrev main_v263 : Ref sig .tc := ⟨.hbm, 437, rfl⟩
abbrev main_v264 : Ref sig .tc := ⟨.hbm, 438, rfl⟩
abbrev main_c_31 : Ref sig .tc := ⟨.hbm, 439, rfl⟩
abbrev main_v265 : Ref sig .tc := ⟨.hbm, 440, rfl⟩
abbrev main_v266 : Ref sig .tc := ⟨.hbm, 441, rfl⟩
abbrev main_v267 : Ref sig .tc := ⟨.hbm, 442, rfl⟩
abbrev main_c_32 : Ref sig .tc := ⟨.hbm, 443, rfl⟩
abbrev main_v268 : Ref sig .tc := ⟨.hbm, 444, rfl⟩
abbrev main_v269 : Ref sig .tc := ⟨.hbm, 445, rfl⟩
abbrev main_c_33 : Ref sig .tc := ⟨.hbm, 446, rfl⟩
abbrev main_v270 : Ref sig .tc := ⟨.hbm, 447, rfl⟩
abbrev main_v271 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_v275 : Ref sig .tc := ⟨.hbm, 452, rfl⟩
abbrev main_v276 : Ref sig .tc := ⟨.hbm, 453, rfl⟩

abbrev nD : Nat := 1
abbrev τ : Topo := Topo.v7x

variable {F : FTy → Type} [FloatOps F]
-- ==== Proof.Tile.lean ====
module

public import proofs.«01_k».proof.Proof.Gen.KernelIdeal.Skeleton

/-! # The kernel's tile functions

What one grid point computes, cut into the pieces that repeat: a layer norm, one head's attention,
the multi-layer perceptron, one layer, and the pick of the last valid row. Every piece is written
with the operations the kernel prints, so that the printed values are these pieces by computation. -/

@[expose] public section

noncomputable section

namespace Cert.KernelIdeal.Tile

open Cert.KernelIdeal Cert.KernelIdeal.Gen Idealize.ShloMosaic Idealize.SL.Sem

variable {F : FTy → Type} [FloatOps F]

/-- Divide a column of row sums by the feature count. -/
def avgT (s : FVec F S200 .f32) : FVec F S200x1 .f32 :=
  divf (shapeCast S200x1 s shapeCasts_S200_S200x1) (broadcast S200x1 (Scalar.ofBits .f32 0x43000000#32))

/-- The sum of each row. -/
def sumT (y : FVec F S200x128 .f32) : FVec F S200 .f32 :=
  multiReduction .add [1] S200 y 0x00000000#32 reduces_S200x128_S200 (.inl rfl) rfl

/-- Each row less its mean. -/
def centreT (y : FVec F S200x128 .f32) : FVec F S200x128 .f32 :=
  subf y (broadcastTo S200x128 (avgT (sumT y)) broadcasts_S200x1_S200x128)

/-- Each row's mean square, plus the small constant. -/
def spreadT (c : FVec F S200x128 .f32) : FVec F S200x1 .f32 :=
  addf (avgT (sumT (mulf c c))) (broadcast S200x1 (Scalar.ofBits .f32 0x3727C5AC#32))

/-- A parameter row spread over all rows. -/
def rowT (v : FVec F S128 .f32) : FVec F S200x128 .f32 :=
  broadcastTo S200x128 (shapeCast S1x128 v shapeCasts_S128_S1x128) broadcasts_S1x128_S200x128

/-- The flat form of a parameter row. -/
def flatT (v : Vec F S1x128 .f32) : FVec F S128 .f32 := shapeCast S128 v shapeCasts_S1x128_S128

/-- The scaled half of a layer norm, from centred rows and their spread. -/
def scaleT (c : FVec F S200x128 .f32) (w : FVec F S200x1 .f32) (g : FVec F S128 .f32) : FVec F S200x128 .f32 :=
  mulf (mulf c (broadcastTo S200x128 (rsqrt w) broadcasts_S200x1_S200x128)) (rowT g)

/-- A layer norm. -/
def normT (y : FVec F S200x128 .f32) (g b : FVec F S128 .f32) : FVec F S200x128 .f32 :=
  addf (scaleT (centreT y) (spreadT (centreT y)) g) (rowT b)

/-- The projection to queries, keys and values. -/
def qkvT (x : FVec F S200x128 .f32) (w : Vec F S1x128x384 .f32) (b : Vec F S1x384 .f32) : FVec F S200x384 .f32 :=
  addf (matmul dot_S200x128_S128x384_S200x384_1_0_0_1_n_n none x (shapeCast S128x384 w shapeCasts_S1x128x384_S128x384)
      (constant S200x384 .f32 0x00000000#32))
    (broadcastTo S200x384 (shapeCast S1x384 (shapeCast S384 b shapeCasts_S1x384_S384) shapeCasts_S384_S1x384)
      broadcasts_S1x384_S200x384)

/-- A head's scaled scores plus the mask. -/
def scoreT (q k : FVec F S200x16 .f32) (bias : FVec F S200x200 .f32) : FVec F S200x200 .f32 :=
  addf (mulf (matmul dot_S200x16_S200x16_S200x200_1_1_0_0_n_n none q k (constant S200x200 .f32 0x00000000#32))
    (broadcast S200x200 (Scalar.ofBits .f32 0x3E800000#32))) bias

/-- The largest score of each row. -/
def peakT (s : FVec F S200x200 .f32) : FVec F S200x1 .f32 :=
  shapeCast S200x1 (multiReduction .maximumf [1] S200 s 0xFF800000#32 reduces_S200x200_S200 (.inl rfl) rfl)
    shapeCasts_S200_S200x1

/-- Exponentials of the scores less the row's peak. -/
def expoT (s : FVec F S200x200 .f32) (p : FVec F S200x1 .f32) : FVec F S200x200 .f32 :=
  exp (subf s (broadcastTo S200x200 p broadcasts_S200x1_S200x200))

/-- The normalised weights times the values. -/
def mixT (e : FVec F S200x200 .f32) (v : FVec F S200x16 .f32) : FVec F S200x16 .f32 :=
  matmul dot_S200x200_S200x16_S200x16_1_0_0_1_n_n none
    (divf e (broadcastTo S200x200 (shapeCast S200x1
      (multiReduction .add [1] S200 e 0x00000000#32 reduces_S200x200_S200 (.inl rfl) rfl) shapeCasts_S200_S200x1)
      broadcasts_S200x1_S200x200)) v (constant S200x16 .f32 0x00000000#32)

/-- One head's attention. -/
def headT (q k v : FVec F S200x16 .f32) (bias : FVec F S200x200 .f32) : FVec F S200x16 .f32 :=
  mixT (expoT (scoreT q k bias) (peakT (scoreT q k bias))) v

/-- One third of the projection: queries, keys or values, by its first column. -/
def thirdT (o : Nat) (x : FVec F S200x384 .f32) (h : S200x384.Slices ![0, o] S200x128) : FVec F S200x128 .f32 :=
  extractStridedSlice S200x128 ![0, o] x h

/-- A head's columns, by the first one. -/
def colsT (o : Nat) (x : FVec F S200x128 .f32) (h : S200x128.Slices ![0, o] S200x16) : FVec F S200x16 .f32 :=
  extractStridedSlice S200x16 ![0, o] x h

/-- The head whose columns start at `o`. -/
def headAtT (o : Nat) (h : S200x128.Slices ![0, o] S200x16) (q k v : FVec F S200x128 .f32) (bias : FVec F S200x200 .f32) :
    FVec F S200x16 .f32 :=
  headT (colsT o q h) (colsT o k h) (colsT o v h) bias

/-- The eight heads side by side. -/
def joinT (a0 a1 a2 a3 a4 a5 a6 a7 : FVec F S200x16 .f32) : FVec F S200x128 .f32 :=
  concatenate S200x128 1 [⟨S200x16, a0⟩, ⟨S200x16, a1⟩, ⟨S200x16, a2⟩, ⟨S200x16, a3⟩, ⟨S200x16, a4⟩, ⟨S200x16, a5⟩,
    ⟨S200x16, a6⟩, ⟨S200x16, a7⟩]
    concatenates_S200x16_S200x16_S200x16_S200x16_S200x16_S200x16_S200x16_S200x16_S200x128_d1

/-- The output projection of the heads and the residual. -/
def outT (x a : FVec F S200x128 .f32) (w : Vec F S1x128x128 .f32) (b : Vec F S1x128 .f32) : FVec F S200x128 .f32 :=
  addf x (addf (matmul dot_S200x128_S128x128_S200x128_1_0_0_1_n_n none a
    (shapeCast S128x128 w shapeCasts_S1x128x128_S128x128) (constant S200x128 .f32 0x00000000#32)) (rowT (flatT b)))

/-- The perceptron and the residual. -/
def mlpT (y : FVec F S200x128 .f32) (w1 : Vec F S1x128x512 .f32) (b1 : Vec F S1x512 .f32) (w2 : Vec F S1x512x128 .f32)
    (b2 : Vec F S1x128 .f32) : FVec F S200x128 .f32 :=
  addf y (addf (matmul dot_S200x512_S512x128_S200x128_1_0_0_1_n_n none
    (maximumf (addf (matmul dot_S200x128_S128x512_S200x512_1_0_0_1_n_n none y
        (shapeCast S128x512 w1 shapeCasts_S1x128x512_S128x512) (constant S200x512 .f32 0x00000000#32))
      (broadcastTo S200x512 (shapeCast S1x512 (shapeCast S512 b1 shapeCasts_S1x512_S512) shapeCasts_S512_S1x512)
        broadcasts_S1x512_S200x512)) (broadcast S200x512 (Scalar.ofBits .f32 0x00000000#32)))
    (shapeCast S512x128 w2 shapeCasts_S1x512x128_S512x128) (constant S200x128 .f32 0x00000000#32)) (rowT (flatT b2)))

/-- All eight heads of one projection. -/
def headsT (p : FVec F S200x384 .f32) (bias : FVec F S200x200 .f32) : FVec F S200x128 .f32 :=
  let q := thirdT 0 p slices_S200x384_o0_0_S200x128
  let k := thirdT 128 p slices_S200x384_o0_128_S200x128
  let v := thirdT 256 p slices_S200x384_o0_256_S200x128
  joinT (headAtT 0 slices_S200x128_o0_0_S200x16 q k v bias) (headAtT 16 slices_S200x128_o0_16_S200x16 q k v bias)
    (headAtT 32 slices_S200x128_o0_32_S200x16 q k v bias) (headAtT 48 slices_S200x128_o0_48_S200x16 q k v bias)
    (headAtT 64 slices_S200x128_o0_64_S200x16 q k v bias) (headAtT 80 slices_S200x128_o0_80_S200x16 q k v bias)
    (headAtT 96 slices_S200x128_o0_96_S200x16 q k v bias) (headAtT 112 slices_S200x128_o0_112_S200x16 q k v bias)

/-- One layer: attention, residual, norm, perceptron, residual, norm. -/
def layerT (x : FVec F S200x128 .f32) (bias : FVec F S200x200 .f32) (wq : Vec F S1x128x384 .f32) (bq : Vec F S1x384 .f32)
    (wo : Vec F S1x128x128 .f32) (bo g1 b1 : Vec F S1x128 .f32) (w1 : Vec F S1x128x512 .f32) (c1 : Vec F S1x512 .f32)
    (w2 : Vec F S1x512x128 .f32) (c2 g2 b2 : Vec F S1x128 .f32) : FVec F S200x128 .f32 :=
  normT (mlpT (normT (outT x (headsT (qkvT x wq bq) bias) wo bo) (flatT g1) (flatT b1)) w1 c1 w2 c2) (flatT g2) (flatT b2)

/-- The row whose number is one less than the length, by a masked sum. -/
def lastT (v1 : Elt F .i32) (x : FVec F S200x128 .f32) : FVec F S1x1x128 .f32 :=
  shapeCast S1x1x128 (multiReduction .add [0] S128
    (select (broadcastTo S200x128 (shapeCast S200x1
        (cmpi .eq (iota .tc S200x1 32 [0] iota_S200x1_d0_w32) (broadcast S200x1 (Scalar.subi v1 1#32)))
        shapeCasts_S200x1_S200x1) broadcasts_S200x1_S200x128) x (broadcast S200x128 (Scalar.ofBits .f32 0x00000000#32)))
    0x00000000#32 reduces_S200x128_S128 (.inl rfl) rfl) shapeCasts_S128_S1x1x128

/-- The first norm: the embedding block plus the positions. -/
def firstT (e : Vec F S1x200x128 .f32) (p : Vec F S200x128 .f32) (g b : Vec F S1x128 .f32) : FVec F S200x128 .f32 :=
  normT (addf (shapeCast S200x128 e shapeCasts_S1x200x128_S200x128) p) (flatT g) (flatT b)

/-! ## The printed values are these pieces -/

section
variable (v1 : Elt F .i32) (x c : FVec F S200x128 .f32) (bias : FVec F S200x200 .f32) (w : Vec F S1x128x384 .f32)
  (b : Vec F S1x384 .f32) (q k v : FVec F S200x128 .f32) (g h : FVec F S128 .f32) (s : FVec F S200x1 .f32)

theorem pay2_eq (e : Vec F S1x200x128 .f32) (p : Vec F S200x128 .f32) (g b : Vec F S1x128 .f32) :
    k0_pay2 e p g b = firstT e p g b := rfl
theorem pay5_eq : k0_pay5 x w b = thirdT 0 (qkvT x w b) slices_S200x384_o0_0_S200x128 := rfl
theorem pay6_eq : k0_pay6 x w b = thirdT 128 (qkvT x w b) slices_S200x384_o0_128_S200x128 := rfl
theorem pay7_eq : k0_pay7 x w b = thirdT 256 (qkvT x w b) slices_S200x384_o0_256_S200x128 := rfl
theorem pay8_eq : k0_pay8 x bias w b = headAtT 0 slices_S200x128_o0_0_S200x16
    (thirdT 0 (qkvT x w b) slices_S200x384_o0_0_S200x128) (thirdT 128 (qkvT x w b) slices_S200x384_o0_128_S200x128)
    (thirdT 256 (qkvT x w b) slices_S200x384_o0_256_S200x128) bias := rfl
theorem pay9_eq : k0_pay9 x bias w b = headAtT 16 slices_S200x128_o0_16_S200x16
    (thirdT 0 (qkvT x w b) slices_S200x384_o0_0_S200x128) (thirdT 128 (qkvT x w b) slices_S200x384_o0_128_S200x128)
    (thirdT 256 (qkvT x w b) slices_S200x384_o0_256_S200x128) bias := rfl
theorem pay11_eq : k0_pay11 bias k v (k0_pay10 x w b) = headAtT 32 slices_S200x128_o0_32_S200x16
    (thirdT 0 (qkvT x w b) slices_S200x384_o0_0_S200x128) k v bias := rfl
theorem pay12_eq : k0_pay12 bias q k v = headAtT 48 slices_S200x128_o0_48_S200x16 q k v bias := rfl
theorem pay16_eq : k0_pay16 (k0_pay13 v) (k0_pay14 bias q k) (k0_pay15 bias q k)
    = headAtT 64 slices_S200x128_o0_64_S200x16 q k v bias := rfl
theorem pay17_eq : k0_pay17 bias q k v = headAtT 80 slices_S200x128_o0_80_S200x16 q k v bias := rfl
theorem pay18_eq : k0_pay18 bias q k v = headAtT 96 slices_S200x128_o0_96_S200x16 q k v bias := rfl
theorem pay22_eq (a0 a1 a2 a3 a4 a5 a6 : FVec F S200x16 .f32) (wo : Vec F S1x128x128 .f32) (bo g b : Vec F S1x128 .f32) :
    addf (k0_pay22 x a0 a1 a2 a3 a4 a5 a6 (k0_pay19 v) (k0_pay20 bias q k) (k0_pay21 bias q k) wo bo g)
      (broadcastTo S200x128 (k0_pay23 b) broadcasts_S1x128_S200x128)
    = normT (outT x (joinT a0 a1 a2 a3 a4 a5 a6 (headAtT 112 slices_S200x128_o0_112_S200x16 q k v bias)) wo bo)
        (flatT g) (flatT b) := rfl
theorem pay26_eq (r : FVec F S1x128 .f32) (w1 : Vec F S1x128x512 .f32) (c1 : Vec F S1x512 .f32)
    (w2 : Vec F S1x512x128 .f32) (c2 : Vec F S1x128 .f32) :
    k0_pay26 x r w1 c1 w2 c2 = centreT (mlpT (addf x (broadcastTo S200x128 r broadcasts_S1x128_S200x128)) w1 c1 w2 c2) := rfl
theorem pay27_eq (r : FVec F S1x128 .f32) (w1 : Vec F S1x128x512 .f32) (c1 : Vec F S1x512 .f32)
    (w2 : Vec F S1x512x128 .f32) (c2 : Vec F S1x128 .f32) :
    k0_pay27 x r w1 c1 w2 c2 = spreadT (k0_pay26 x r w1 c1 w2 c2) := rfl
theorem pay28_eq : k0_pay28 g h (centreT x) (spreadT (centreT x)) = normT x g h := rfl
theorem pay30_eq : k0_pay30 g h c s w b = thirdT 0 (qkvT (k0_pay28 g h c s) w b) slices_S200x384_o0_0_S200x128 := rfl
theorem pay31_eq : k0_pay31 g h c s w b = thirdT 128 (qkvT (k0_pay28 g h c s) w b) slices_S200x384_o0_128_S200x128 := rfl
theorem pay32_eq : k0_pay32 g h c s w b = thirdT 256 (qkvT (k0_pay28 g h c s) w b) slices_S200x384_o0_256_S200x128 := rfl
theorem pay33_eq : k0_pay33 bias g h c s w b = headAtT 0 slices_S200x128_o0_0_S200x16
    (k0_pay30 g h c s w b) (k0_pay31 g h c s w b) (k0_pay32 g h c s w b) bias := rfl
theorem pay37_eq : k0_pay37 (k0_pay34 g h c s w b) (k0_pay35 bias g h c s w b) (k0_pay36 bias g h c s w b)
    = headAtT 16 slices_S200x128_o0_16_S200x16
    (k0_pay30 g h c s w b) (k0_pay31 g h c s w b) (k0_pay32 g h c s w b) bias := rfl
theorem pay38_eq : k0_pay38 bias q k v = headAtT 32 slices_S200x128_o0_32_S200x16 q k v bias := rfl
theorem pay39_eq : k0_pay39 bias q k v = headAtT 48 slices_S200x128_o0_48_S200x16 q k v bias := rfl
theorem pay42_eq : k0_pay42 bias (k0_pay40 v) (k0_pay41 q k) (Scalar.ofBits .f32 0x3E800000#32)
    = headAtT 64 slices_S200x128_o0_64_S200x16 q k v bias := rfl
theorem pay43_eq : k0_pay43 bias q k v = headAtT 80 slices_S200x128_o0_80_S200x16 q k v bias := rfl
theorem pay44_eq : k0_pay44 bias q k v = headAtT 96 slices_S200x128_o0_96_S200x16 q k v bias := rfl
theorem pay47_eq (a0 a1 a2 a3 a4 a5 a6 : FVec F S200x16 .f32) (wo : Vec F S1x128x128 .f32) (bo : Vec F S1x128 .f32) :
    k0_pay47 bias x q k v a0 a1 a2 a3 a4 a5 a6 wo bo
    = centreT (outT x (joinT a0 a1 a2 a3 a4 a5 a6 (headAtT 112 slices_S200x128_o0_112_S200x16 q k v bias)) wo bo) := rfl
theorem pay48_eq (a0 a1 a2 a3 a4 a5 a6 : FVec F S200x16 .f32) (wo : Vec F S1x128x128 .f32) (bo : Vec F S1x128 .f32) :
    k0_pay48 bias x q k v a0 a1 a2 a3 a4 a5 a6 wo bo
    = shapeCast S200x1 (sumT (mulf (k0_pay47 bias x q k v a0 a1 a2 a3 a4 a5 a6 wo bo)
        (k0_pay47 bias x q k v a0 a1 a2 a3 a4 a5 a6 wo bo))) shapeCasts_S200_S200x1 := rfl
theorem pay50_eq (w1 : Vec F S1x128x512 .f32) (c1 : Vec F S1x512 .f32) (w2 : Vec F S1x512x128 .f32) (c2 : Vec F S1x128 .f32)
    (g b : Vec F S1x128 .f32) :
    k0_pay50 (k0_pay45 g) (k0_pay46 b) (centreT x) (shapeCast S200x1 (sumT (mulf (centreT x) (centreT x))) shapeCasts_S200_S200x1)
      k0_pay49 w1 c1 w2 c2
    = mlpT (normT x (flatT g) (flatT b)) w1 c1 w2 c2 := rfl
theorem pay53_eq (w1 : Vec F S1x128x512 .f32) (c1 : Vec F S1x512 .f32) (w2 : Vec F S1x512x128 .f32) (c2 : Vec F S1x128 .f32)
    (t : FVec F S200x1 .f32) :
    k0_pay53 g h x s t w1 c1 w2 c2
    = broadcastTo S200x128 (avgT (sumT (k0_pay50 g h x s t w1 c1 w2 c2))) broadcasts_S200x1_S200x128 := rfl
theorem pay1_eq (g b : Vec F S1x128 .f32) :
    k0_pay1 v1 x (k0_pay51 g) (k0_pay52 b) (broadcastTo S200x128 (avgT (sumT x)) broadcasts_S200x1_S200x128)
    = lastT v1 (normT x (flatT g) (flatT b)) := rfl
theorem pay24_eq (g : Vec F S1x128 .f32) : k0_pay24 g = flatT g := rfl
theorem pay25_eq (g : Vec F S1x128 .f32) : k0_pay25 g = flatT g := rfl
end

end Cert.KernelIdeal.Tile
end
-- ==== Proof.TileRun.lean ====
module

public import proofs.«01_k».proof.Proof.Tile
public import proofs.«01_k».proof.Proof.Gen.KernelIdeal.Frame
public import Idealize.ShloMosaic.Lib.Pipeline.ValueKit.Basic

/-! # What one grid point leaves

The value the frame's run names for the output block is the tile functions applied to the point's
input blocks and its length. -/

@[expose] public section

noncomputable section

namespace Cert.KernelIdeal.Tile

open Cert.KernelIdeal Cert.KernelIdeal.Gen Idealize.ShloMosaic Idealize.SL.Sem

variable {F : FTy → Type} [FloatOps F]

/-- A load off a whole buffer known by its contents reads those contents. -/
theorem readAt_unread {sp : Space} {s : Shape} {e : EltTy} (a : Memref sig .tc sp s e) (h : a.IsWhole)
    (X : s.Idx → Elt F e) (r : Rect s) : View.readAt (Elt F) a.view r.toLoadRect (h.unread X) = View.ld X r := by
  funext j
  exact congrFun (h.read_unread X) (r.idx j)

/-- One point's output, from its length and its input blocks. -/
def rowOut (v1 : Elt F .i32) (x0 : Vec F S1x200x128 .f32) (x1 : Vec F S200x128 .f32) (x2 x3 : Vec F S1x128 .f32)
    (x4 : Vec F S2x128x384 .f32) (x5 : Vec F S2x384 .f32) (x6 : Vec F S2x128x128 .f32) (x7 x8 x9 : Vec F S2x128 .f32)
    (x10 : Vec F S2x128x512 .f32) (x11 : Vec F S2x512 .f32) (x12 : Vec F S2x512x128 .f32) (x13 x14 x15 : Vec F S2x128 .f32) :
    Vec F S1x1x128 .f32 :=
  lastT v1 (layerT (layerT (firstT x0 x1 x2 x3) (k0_pay3 v1)
      (View.ld x4 (Rect.unit ![0, 0, 0] S1x128x384.size inb_S2x128x384_S1x128x384_0_0_0))
      (View.ld x5 (Rect.unit ![0, 0] S1x384.size inb_S2x384_S1x384_0_0))
      (View.ld x6 (Rect.unit ![0, 0, 0] S1x128x128.size inb_S2x128x128_S1x128x128_0_0_0))
      (View.ld x7 (Rect.unit ![0, 0] S1x128.size inb_S2x128_S1x128_0_0))
      (View.ld x8 (Rect.unit ![0, 0] S1x128.size inb_S2x128_S1x128_0_0))
      (View.ld x9 (Rect.unit ![0, 0] S1x128.size inb_S2x128_S1x128_0_0))
      (View.ld x10 (Rect.unit ![0, 0, 0] S1x128x512.size inb_S2x128x512_S1x128x512_0_0_0))
      (View.ld x11 (Rect.unit ![0, 0] S1x512.size inb_S2x512_S1x512_0_0))
      (View.ld x12 (Rect.unit ![0, 0, 0] S1x512x128.size inb_S2x512x128_S1x512x128_0_0_0))
      (View.ld x13 (Rect.unit ![0, 0] S1x128.size inb_S2x128_S1x128_0_0))
      (View.ld x14 (Rect.unit ![0, 0] S1x128.size inb_S2x128_S1x128_0_0))
      (View.ld x15 (Rect.unit ![0, 0] S1x128.size inb_S2x128_S1x128_0_0))) (k0_pay3 v1)
      (View.ld x4 (Rect.unit ![1, 0, 0] S1x128x384.size inb_S2x128x384_S1x128x384_1_0_0))
      (View.ld x5 (Rect.unit ![1, 0] S1x384.size inb_S2x384_S1x384_1_0))
      (View.ld x6 (Rect.unit ![1, 0, 0] S1x128x128.size inb_S2x128x128_S1x128x128_1_0_0))
      (View.ld x7 (Rect.unit ![1, 0] S1x128.size inb_S2x128_S1x128_1_0))
      (View.ld x8 (Rect.unit ![1, 0] S1x128.size inb_S2x128_S1x128_1_0))
      (View.ld x9 (Rect.unit ![1, 0] S1x128.size inb_S2x128_S1x128_1_0))
      (View.ld x10 (Rect.unit ![1, 0, 0] S1x128x512.size inb_S2x128x512_S1x128x512_1_0_0))
      (View.ld x11 (Rect.unit ![1, 0] S1x512.size inb_S2x512_S1x512_1_0))
      (View.ld x12 (Rect.unit ![1, 0, 0] S1x512x128.size inb_S2x512x128_S1x512x128_1_0_0))
      (View.ld x13 (Rect.unit ![1, 0] S1x128.size inb_S2x128_S1x128_1_0))
      (View.ld x14 (Rect.unit ![1, 0] S1x128.size inb_S2x128_S1x128_1_0))
      (View.ld x15 (Rect.unit ![1, 0] S1x128.size inb_S2x128_S1x128_1_0)))

/-- The output block the frame's run names is `rowOut`. -/
theorem out_eq  (c : Dev nD) (i : grid0.Coords) (arg2 : Memref sig .tc .vmem S1x200x128 .f32) (harg2 : arg2.IsWhole) (arg3 : Memref sig .tc .vmem S200x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128x384 .f32) (harg6 : arg6.IsWhole) (arg7 : Memref sig .tc .vmem S2x384 .f32) (harg7 : arg7.IsWhole) (arg8 : Memref sig .tc .vmem S2x128x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128x512 .f32) (harg12 : arg12.IsWhole) (arg13 : Memref sig .tc .vmem S2x512 .f32) (harg13 : arg13.IsWhole) (arg14 : Memref sig .tc .vmem S2x512x128 .f32) (harg14 : arg14.IsWhole) (arg15 : Memref sig .tc .vmem S2x128 .f32) (harg15 : arg15.IsWhole) (arg16 : Memref sig .tc .vmem S2x128 .f32) (harg16 : arg16.IsWhole) (arg17 : Memref sig .tc .vmem S2x128 .f32) (harg17 : arg17.IsWhole) (arg18 : Memref sig .tc .vmem S1x1x128 .f32) (harg18 : arg18.IsWhole)
    (x0 : Vec F S1x200x128 .f32) (x1 : Vec F S200x128 .f32) (x2 : Vec F S1x128 .f32) (x3 : Vec F S1x128 .f32) (x4 : Vec F S2x128x384 .f32) (x5 : Vec F S2x384 .f32) (x6 : Vec F S2x128x128 .f32) (x7 : Vec F S2x128 .f32) (x8 : Vec F S2x128 .f32) (x9 : Vec F S2x128 .f32) (x10 : Vec F S2x128x512 .f32) (x11 : Vec F S2x512 .f32) (x12 : Vec F S2x512x128 .f32) (x13 : Vec F S2x128 .f32) (x14 : Vec F S2x128 .f32) (x15 : Vec F S2x128 .f32) (xt0 : TbBuf0 (F := F) c tbM0_0) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 xt0
    = rowOut (View.readAt (Elt F) tbM0_0.view (Rect.unit (s := S1024) (k0_off1 i) S1.size (k0_off1_inb i)).toLoadRect xt0
        (Shape.Idx.first (show 0 < S1.numel by rw [numel1_S1]; exact Nat.one_pos))) x0 x1 x2 x3 x4 x5 x6 x7 x8 x9 x10 x11 x12 x13 x14 x15 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 xt0)]
  refine (View.canon_cons_unit_lit (S := S1x1x128) inb_S1x1x128_S1x1x128_0_0_0 _ _ (by decide)).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, readAt_unread]
  have h0 : View.ld x0 (Rect.unit ![0, 0, 0] S1x200x128.size inb_S1x200x128_S1x200x128_0_0_0) = x0 :=
    View.ld_unit_lit _ _ (by decide)
  have h1 : View.ld x1 (Rect.unit ![0, 0] S200x128.size inb_S200x128_S200x128_0_0) = x1 :=
    View.ld_unit_lit _ _ (by decide)
  have h2 : ∀ x : Vec F S1x128 .f32, View.ld x (Rect.unit ![0, 0] S1x128.size inb_S1x128_S1x128_0_0) = x :=
    fun x => View.ld_unit_lit _ _ (by decide)
  simp only [h0, h1, h2, pay2_eq, pay5_eq, pay6_eq, pay7_eq, pay8_eq, pay9_eq, pay11_eq, pay12_eq, pay16_eq, pay17_eq,
    pay18_eq, pay22_eq, pay24_eq, pay25_eq, pay26_eq, pay27_eq, pay28_eq, pay30_eq, pay31_eq, pay32_eq, pay33_eq,
    pay37_eq, pay38_eq, pay39_eq, pay42_eq, pay43_eq, pay44_eq, pay47_eq, pay48_eq, pay50_eq, pay53_eq, pay1_eq]
  rfl
end Cert.KernelIdeal.Tile
end
-- ==== Proof.Blocks.lean ====
module

public import proofs.«01_k».proof.Proof.TileRun
public import Idealize.ShloMosaic.Lib.Pipeline.Value
public import Idealize.ShloMosaic.Lib.Pointwise
public import Idealize.ShloMosaic.Lib.Claim

/-! # What the blocks of a grid point hold

Point `t` works on batch entry `t`: its first block is that entry's embeddings and its word that entry's
length. Every other block is a whole array, an argument or a turned or reshaped one. -/

@[expose] public section

noncomputable section

namespace Cert.KernelIdeal.Tile

open Cert.KernelIdeal Cert.KernelIdeal.Gen Idealize.ShloMosaic Idealize.SL.Sem

variable {F : FTy → Type} [FloatOps F]
variable (m : (ℓ : Loc nD τ sig) → Buf (Elt F) ℓ)

/-- No window's index map reads the lengths, so the launch has nothing to ask of them. -/
theorem ok : Ok m := by
  show True
  trivial

/-! ## The arrays made before the launch -/

theorem V_v0 (c : Dev nD) :
    V m c main_v0 = transpose S2x128x384 [0, 2, 1] (m ((c.tc : Thread nD τ).loc main_arg5)) transposes_S2x384x128_S2x128x384_0_2_1 := by
  unfold V V0
  simp only [hostOps0, List.flatten_cons, List.flatten_nil, List.append_nil]
  after_results

theorem V_v1 (c : Dev nD) :
    V m c main_v1 = transpose S2x128x128 [0, 2, 1] (m ((c.tc : Thread nD τ).loc main_arg7)) transposes_S2x128x128_S2x128x128_0_2_1 := by
  unfold V V0
  simp only [hostOps0, List.flatten_cons, List.flatten_nil, List.append_nil]
  after_results

theorem V_v2 (c : Dev nD) :
    V m c main_v2 = transpose S2x128x512 [0, 2, 1] (m ((c.tc : Thread nD τ).loc main_arg11)) transposes_S2x512x128_S2x128x512_0_2_1 := by
  unfold V V0
  simp only [hostOps0, List.flatten_cons, List.flatten_nil, List.append_nil]
  after_results

theorem V_v3 (c : Dev nD) :
    V m c main_v3 = transpose S2x512x128 [0, 2, 1] (m ((c.tc : Thread nD τ).loc main_arg13)) transposes_S2x128x512_S2x512x128_0_2_1 := by
  unfold V V0
  simp only [hostOps0, List.flatten_cons, List.flatten_nil, List.append_nil]
  after_results

theorem V_v4 (c : Dev nD) :
    V m c main_v4 = shapeCast S1x128 (m ((c.tc : Thread nD τ).loc main_arg3)) shapeCasts_S128_S1x128 := by
  unfold V V0
  simp only [hostOps0, List.flatten_cons, List.flatten_nil, List.append_nil]
  after_results
  rfl

theorem V_v5 (c : Dev nD) :
    V m c main_v5 = shapeCast S1x128 (m ((c.tc : Thread nD τ).loc main_arg4)) shapeCasts_S128_S1x128 := by
  unfold V V0
  simp only [hostOps0, List.flatten_cons, List.flatten_nil, List.append_nil]
  after_results
  rfl

/-! ## The point's place in the grid -/

theorem point_lt (hO : Ok m) (t : Fin (cfgM m hO).N) : t.val < 1024 := N_0 ▸ t.isLt

theorem coord_point (t : Fin grid0.N) : (grid0.coords t 0).val = t.val := by
  have h := Pipeline.Grid.coords_val t 0 (S := 1) (B := 1024) (by decide) rfl
  have : t.val < 1024 := N_0 ▸ t.isLt
  rw [h]; omega

theorem transform_0 (t : Fin grid0.N) : cc0_transform_0 (grid0.coords t) 0 = t.val := by
  have : t.val < 1024 := N_0 ▸ t.isLt
  show (BitVec.ofNat 32 (grid0.coords t 0).val).toNat = t.val
  rw [coord_point, BitVec.toNat_ofNat]; omega

theorem transform_16 (t : Fin grid0.N) : cc0_transform_16 (grid0.coords t) 0 = t.val := by
  have : t.val < 1024 := N_0 ▸ t.isLt
  show (BitVec.ofNat 32 (grid0.coords t 0).val).toNat = t.val
  rw [coord_point, BitVec.toNat_ofNat]; omega

theorem word_off (t : Fin grid0.N) : k0_off1 (grid0.coords t) 0 = t.val := by
  have : t.val < 1024 := N_0 ▸ t.isLt
  show (Scalar.indexCast (BitVec.ofNat 32 (grid0.coords t 0).val)).toNat = t.val
  rw [coord_point]
  show (BitVec.ofNat 32 t.val).toNat = t.val
  rw [BitVec.toNat_ofNat]; omega

/-! ## The blocks -/

theorem block0 (hO : Ok m) (c : Dev nD) (t : Fin (cfgM m hO).N) (r : Fin 200) (l : Fin 128) :
    (iblk m hO c 0 t : Vec F S1x200x128 .f32) (ix3 0 r l)
      = (m ((c.tc : Thread nD τ).loc main_arg0) : Vec F S1024x200x128 .f32) (ix3 ⟨t.val, point_lt m hO t⟩ r l) := by
  refine Eq.trans ?_ (congrFun (V_main_arg0 m c) _)
  show V m c main_arg0 ((((cfgM m hO).win 0).rect t).emb (ix3 0 r l)) = V m c main_arg0 _
  congr 1
  funext a
  refine Fin.ext ?_
  refine (Pipeline.Window.rect_emb_val ((cfgM m hO).win 0) t _ a).trans ?_
  match a with
  | ⟨0, _⟩ =>
    show cc0_transform_0 (grid0.coords t) 0 * 1 + 0 = t.val
    rw [transform_0]; omega
  | ⟨1, _⟩ => show 0 * 200 + r.val = r.val; omega
  | ⟨2, _⟩ => show 0 * 128 + l.val = l.val; omega

theorem word (hO : Ok m) (c : Dev nD) (t : Fin (cfgM m hO).N) :
    View.readAt (Elt F) tbM0_0.view (Rect.unit (s := S1024) (k0_off1 (grid0.coords t)) S1.size (k0_off1_inb (grid0.coords t))).toLoadRect
      (tbl m 0) (Shape.Idx.first (show 0 < S1.numel by rw [numel1_S1]; exact Nat.one_pos))
    = (m ((c.tc : Thread nD τ).loc main_arg1) : IVec S1024 32) (ix1 ⟨t.val, point_lt m hO t⟩) := by
  refine Eq.trans ?_ (congrFun (V_main_arg1 m c) _)
  have hV : tbl m 0 = V m c main_arg1 := (V_pre m c 0).symm
  rw [hV]
  show V m c main_arg1 _ = V m c main_arg1 _
  congr 1
  funext a
  refine Fin.ext ?_
  match a with
  | ⟨0, _⟩ =>
    show k0_off1 (grid0.coords t) 0 + 1 * 0 = t.val
    rw [word_off]; omega

theorem block1 (hO : Ok m) (c : Dev nD) (t : Fin (cfgM m hO).N) : iblk m hO c 1 t = V m c main_arg2 := by
  funext j
  show V m c main_arg2 ((((cfgM m hO).win 1).rect t).emb j) = V m c main_arg2 j
  congr 1
  funext a
  refine Fin.ext ?_
  exact Pipeline.Window.rect_emb_val_of_index_zero ((cfgM m hO).win 1) t a (by fin_cases a <;> rfl) j

theorem block2 (hO : Ok m) (c : Dev nD) (t : Fin (cfgM m hO).N) : iblk m hO c 2 t = V m c main_v4 := by
  funext j
  show V m c main_v4 ((((cfgM m hO).win 2).rect t).emb j) = V m c main_v4 j
  congr 1
  funext a
  refine Fin.ext ?_
  exact Pipeline.Window.rect_emb_val_of_index_zero ((cfgM m hO).win 2) t a (by fin_cases a <;> rfl) j

theorem block3 (hO : Ok m) (c : Dev nD) (t : Fin (cfgM m hO).N) : iblk m hO c 3 t = V m c main_v5 := by
  funext j
  show V m c main_v5 ((((cfgM m hO).win 3).rect t).emb j) = V m c main_v5 j
  congr 1
  funext a
  refine Fin.ext ?_
  exact Pipeline.Window.rect_emb_val_of_index_zero ((cfgM m hO).win 3) t a (by fin_cases a <;> rfl) j

theorem block4 (hO : Ok m) (c : Dev nD) (t : Fin (cfgM m hO).N) : iblk m hO c 4 t = V m c main_v0 := by
  funext j
  show V m c main_v0 ((((cfgM m hO).win 4).rect t).emb j) = V m c main_v0 j
  congr 1
  funext a
  refine Fin.ext ?_
  exact Pipeline.Window.rect_emb_val_of_index_zero ((cfgM m hO).win 4) t a (by fin_cases a <;> rfl) j

theorem block5 (hO : Ok m) (c : Dev nD) (t : Fin (cfgM m hO).N) : iblk m hO c 5 t = V m c main_arg6 := by
  funext j
  show V m c main_arg6 ((((cfgM m hO).win 5).rect t).emb j) = V m c main_arg6 j
  congr 1
  funext a
  refine Fin.ext ?_
  exact Pipeline.Window.rect_emb_val_of_index_zero ((cfgM m hO).win 5) t a (by fin_cases a <;> rfl) j

theorem block6 (hO : Ok m) (c : Dev nD) (t : Fin (cfgM m hO).N) : iblk m hO c 6 t = V m c main_v1 := by
  funext j
  show V m c main_v1 ((((cfgM m hO).win 6).rect t).emb j) = V m c main_v1 j
  congr 1
  funext a
  refine Fin.ext ?_
  exact Pipeline.Window.rect_emb_val_of_index_zero ((cfgM m hO).win 6) t a (by fin_cases a <;> rfl) j

theorem block7 (hO : Ok m) (c : Dev nD) (t : Fin (cfgM m hO).N) : iblk m hO c 7 t = V m c main_arg8 := by
  funext j
  show V m c main_arg8 ((((cfgM m hO).win 7).rect t).emb j) = V m c main_arg8 j
  congr 1
  funext a
  refine Fin.ext ?_
  exact Pipeline.Window.rect_emb_val_of_index_zero ((cfgM m hO).win 7) t a (by fin_cases a <;> rfl) j

theorem block8 (hO : Ok m) (c : Dev nD) (t : Fin (cfgM m hO).N) : iblk m hO c 8 t = V m c main_arg9 := by
  funext j
  show V m c main_arg9 ((((cfgM m hO).win 8).rect t).emb j) = V m c main_arg9 j
  congr 1
  funext a
  refine Fin.ext ?_
  exact Pipeline.Window.rect_emb_val_of_index_zero ((cfgM m hO).win 8) t a (by fin_cases a <;> rfl) j

theorem block9 (hO : Ok m) (c : Dev nD) (t : Fin (cfgM m hO).N) : iblk m hO c 9 t = V m c main_arg10 := by
  funext j
  show V m c main_arg10 ((((cfgM m hO).win 9).rect t).emb j) = V m c main_arg10 j
  congr 1
  funext a
  refine Fin.ext ?_
  exact Pipeline.Window.rect_emb_val_of_index_zero ((cfgM m hO).win 9) t a (by fin_cases a <;> rfl) j

theorem block10 (hO : Ok m) (c : Dev nD) (t : Fin (cfgM m hO).N) : iblk m hO c 10 t = V m c main_v2 := by
  funext j
  show V m c main_v2 ((((cfgM m hO).win 10).rect t).emb j) = V m c main_v2 j
  congr 1
  funext a
  refine Fin.ext ?_
  exact Pipeline.Window.rect_emb_val_of_index_zero ((cfgM m hO).win 10) t a (by fin_cases a <;> rfl) j

theorem block11 (hO : Ok m) (c : Dev nD) (t : Fin (cfgM m hO).N) : iblk m hO c 11 t = V m c main_arg12 := by
  funext j
  show V m c main_arg12 ((((cfgM m hO).win 11).rect t).emb j) = V m c main_arg12 j
  congr 1
  funext a
  refine Fin.ext ?_
  exact Pipeline.Window.rect_emb_val_of_index_zero ((cfgM m hO).win 11) t a (by fin_cases a <;> rfl) j

theorem block12 (hO : Ok m) (c : Dev nD) (t : Fin (cfgM m hO).N) : iblk m hO c 12 t = V m c main_v3 := by
  funext j
  show V m c main_v3 ((((cfgM m hO).win 12).rect t).emb j) = V m c main_v3 j
  congr 1
  funext a
  refine Fin.ext ?_
  exact Pipeline.Window.rect_emb_val_of_index_zero ((cfgM m hO).win 12) t a (by fin_cases a <;> rfl) j

theorem block13 (hO : Ok m) (c : Dev nD) (t : Fin (cfgM m hO).N) : iblk m hO c 13 t = V m c main_arg14 := by
  funext j
  show V m c main_arg14 ((((cfgM m hO).win 13).rect t).emb j) = V m c main_arg14 j
  congr 1
  funext a
  refine Fin.ext ?_
  exact Pipeline.Window.rect_emb_val_of_index_zero ((cfgM m hO).win 13) t a (by fin_cases a <;> rfl) j

theorem block14 (hO : Ok m) (c : Dev nD) (t : Fin (cfgM m hO).N) : iblk m hO c 14 t = V m c main_arg15 := by
  funext j
  show V m c main_arg15 ((((cfgM m hO).win 14).rect t).emb j) = V m c main_arg15 j
  congr 1
  funext a
  refine Fin.ext ?_
  exact Pipeline.Window.rect_emb_val_of_index_zero ((cfgM m hO).win 14) t a (by fin_cases a <;> rfl) j

theorem block15 (hO : Ok m) (c : Dev nD) (t : Fin (cfgM m hO).N) : iblk m hO c 15 t = V m c main_arg16 := by
  funext j
  show V m c main_arg16 ((((cfgM m hO).win 15).rect t).emb j) = V m c main_arg16 j
  congr 1
  funext a
  refine Fin.ext ?_
  exact Pipeline.Window.rect_emb_val_of_index_zero ((cfgM m hO).win 15) t a (by fin_cases a <;> rfl) j

end Cert.KernelIdeal.Tile
-- ==== Proof.Spec.lean ====
module

public import Idealize.ShloMosaic.Lib.Pointwise

/-! # One sequence's encoder, entry by entry

The mathematics of one batch row over the extended reals, with rows `Fin 200` and features `Fin 128`.
Both programs are shown to compute these functions. -/

@[expose] public section

noncomputable section

namespace Cert.Spec

open Idealize.ShloMosaic

/-- A matrix of extended reals. -/
abbrev Mat (n k : Nat) := Fin n → Fin k → EReal

/-- The feature count, as both programs print it. -/
def count : EReal := Ideal.ofBits .f32 0x43000000#32
/-- The small constant of the layer norms. -/
def tiny : EReal := Ideal.ofBits .f32 0x3727C5AC#32
/-- One over the square root of the head width. -/
def quarter : EReal := Ideal.ofBits .f32 0x3E800000#32

/-- A row less its mean. -/
def centre (y : Mat 200 128) : Mat 200 128 := fun r l => y r l - Ideal.div (∑ k, y r k) count

/-- A row's mean square plus the small constant. -/
def spread (c : Mat 200 128) (r : Fin 200) : EReal := Ideal.div (∑ k, c r k * c r k) count + tiny

/-- A layer norm. -/
def norm (y : Mat 200 128) (g b : Fin 128 → EReal) : Mat 200 128 := fun r l =>
  centre y r l * Ideal.rsqrt (spread (centre y) r) * g l + b l

/-- The projection to queries, keys and values. -/
def qkv (x : Mat 200 128) (w : Mat 128 384) (b : Fin 384 → EReal) : Mat 200 384 := fun r j =>
  (∑ k, x r k * w k j) + b j

/-- Column `d` of head `h` in a third of the projection that starts at column `o`. -/
def col (o : Nat) (ho : o + 128 ≤ 384) (h : Fin 8) (d : Fin 16) : Fin 384 := ⟨o + (16 * h + d), by omega⟩

/-- A head's scores, scaled and masked. -/
def score (p : Mat 200 384) (bias : Mat 200 200) (h : Fin 8) : Mat 200 200 := fun q k =>
  (∑ d, p q (col 0 (by omega) h d) * p k (col 128 (by omega) h d)) * quarter + bias q k

/-- The largest entry of a row. -/
def peak (s : Mat 200 200) (q : Fin 200) : EReal := Finset.univ.fold max (Ideal.ofBits .f32 0xFF800000#32) fun k => s q k

/-- Exponentials of the entries less the row's peak. -/
def expo (s : Mat 200 200) : Mat 200 200 := fun q k => Ideal.exp (s q k - peak s q)

/-- The normalised weights of a row times the values of one head. -/
def mix (e : Mat 200 200) (p : Mat 200 384) (h : Fin 8) : Mat 200 16 := fun q d =>
  ∑ k, Ideal.div (e q k) (∑ j, e q j) * p k (col 256 (by omega) h d)

/-- The heads side by side. -/
def heads (p : Mat 200 384) (bias : Mat 200 200) : Mat 200 128 := fun q l =>
  mix (expo (score p bias ⟨l / 16, by omega⟩)) p ⟨l / 16, by omega⟩ q ⟨l % 16, by omega⟩

/-- The output projection and the residual. -/
def out (x a : Mat 200 128) (w : Mat 128 128) (b : Fin 128 → EReal) : Mat 200 128 := fun r j =>
  x r j + ((∑ k, a r k * w k j) + b j)

/-- The perceptron and the residual. -/
def mlp (y : Mat 200 128) (w1 : Mat 128 512) (b1 : Fin 512 → EReal) (w2 : Mat 512 128) (b2 : Fin 128 → EReal) :
    Mat 200 128 := fun r j =>
  y r j + ((∑ f, max ((∑ k, y r k * w1 k f) + b1 f) 0 * w2 f j) + b2 j)

/-- One layer. -/
def layer (x : Mat 200 128) (bias : Mat 200 200) (wq : Mat 128 384) (bq : Fin 384 → EReal) (wo : Mat 128 128)
    (bo g1 b1 : Fin 128 → EReal) (w1 : Mat 128 512) (c1 : Fin 512 → EReal) (w2 : Mat 512 128)
    (c2 g2 b2 : Fin 128 → EReal) : Mat 200 128 :=
  norm (mlp (norm (out x (heads (qkv x wq bq) bias) wo bo) g1 b1) w1 c1 w2 c2) g2 b2

/-- The mask of a sequence of length `v`: no later position, and none past the length. -/
def bias (v : BitVec 32) : Mat 200 200 := fun q k =>
  Scalar.select (IntOp.ori (IntOp.cmpi .sgt (BitVec.ofNat 32 k) (BitVec.ofNat 32 q)) (IntOp.cmpi .sge (BitVec.ofNat 32 k) v))
    (Ideal.ofBits .f32 0xCE6E6B28#32) 0

/-- The row whose number is one less than `v`, by a masked sum. -/
def last (v : BitVec 32) (x : Mat 200 128) (l : Fin 128) : EReal :=
  ∑ r : Fin 200, Scalar.select (IntOp.cmpi .eq (BitVec.ofNat 32 r) (Scalar.subi v 1#32)) (x r l) 0

/-- One sequence's answer: the normed sum of embeddings and positions, two layers, and the last row. -/
def answer (v : BitVec 32) (e p : Mat 200 128) (g b : Fin 128 → EReal) (wq : Fin 2 → Mat 128 384)
    (bq : Fin 2 → Fin 384 → EReal) (wo : Fin 2 → Mat 128 128) (bo g1 b1 : Fin 2 → Fin 128 → EReal)
    (w1 : Fin 2 → Mat 128 512) (c1 : Fin 2 → Fin 512 → EReal) (w2 : Fin 2 → Mat 512 128)
    (c2 g2 b2 : Fin 2 → Fin 128 → EReal) : Fin 128 → EReal :=
  last v (layer (layer (norm (fun r l => e r l + p r l) g b) (bias v) (wq 0) (bq 0) (wo 0) (bo 0) (g1 0) (b1 0) (w1 0) (c1 0)
    (w2 0) (c2 0) (g2 0) (b2 0)) (bias v) (wq 1) (bq 1) (wo 1) (bo 1) (g1 1) (b1 1) (w1 1) (c1 1) (w2 1) (c2 1) (g2 1) (b2 1))

/-- The layers of a stack of vectors. -/
abbrev rows {n : Nat} (x : FVec Ideal ⟨2, ![2, n]⟩ .f32) : Fin 2 → Fin n → EReal := fun i l => x (ix2 i l)
/-- The layers of a stack of matrices, each turned. -/
abbrev turns {n k : Nat} (x : FVec Ideal ⟨3, ![2, n, k]⟩ .f32) : Fin 2 → Mat k n := fun i l r => x (ix3 i r l)

/-- The whole batch's answers, from the arguments in order. -/
def result (a0 : FVec Ideal ⟨3, ![1024, 200, 128]⟩ .f32) (a1 : IVec ⟨1, ![1024]⟩ 32) (a2 : FVec Ideal ⟨2, ![200, 128]⟩ .f32)
    (a3 a4 : FVec Ideal ⟨1, ![128]⟩ .f32) (a5 : FVec Ideal ⟨3, ![2, 384, 128]⟩ .f32) (a6 : FVec Ideal ⟨2, ![2, 384]⟩ .f32)
    (a7 : FVec Ideal ⟨3, ![2, 128, 128]⟩ .f32) (a8 a9 a10 : FVec Ideal ⟨2, ![2, 128]⟩ .f32)
    (a11 : FVec Ideal ⟨3, ![2, 512, 128]⟩ .f32) (a12 : FVec Ideal ⟨2, ![2, 512]⟩ .f32)
    (a13 : FVec Ideal ⟨3, ![2, 128, 512]⟩ .f32) (a14 a15 a16 : FVec Ideal ⟨2, ![2, 128]⟩ .f32) :
    FVec Ideal ⟨2, ![1024, 128]⟩ .f32 := fun i =>
  answer (a1 (ix1 (i 0))) (fun r l => a0 (ix3 (i 0) r l)) (fun r l => a2 (ix2 r l)) (fun l => a3 (ix1 l)) (fun l => a4 (ix1 l))
    (turns a5) (rows a6) (turns a7) (rows a8) (rows a9) (rows a10) (turns a11) (rows a12) (turns a13) (rows a14) (rows a15)
    (rows a16) (i 1)

end Cert.Spec
end
-- ==== Proof.TileSpec.lean ====
module

public import proofs.«01_k».proof.Proof.Tile
public import proofs.«01_k».proof.Proof.Spec
public import Idealize.ShloMosaic.Lib.Pointwise

/-! # The tile functions, entry by entry -/

@[expose] public section

noncomputable section

namespace Cert.KernelIdeal.Tile

open Cert.KernelIdeal Cert.KernelIdeal.Gen Idealize.ShloMosaic

/-- A rank-two vector as a matrix. -/
abbrev mat {n k : Nat} (x : FVec Ideal ⟨2, ![n, k]⟩ .f32) : Spec.Mat n k := fun r l => x (ix2 r l)

theorem centreT_apply (y : FVec Ideal S200x128 .f32) (r : Fin 200) (l : Fin 128) :
    centreT y (ix2 r l) = Spec.centre (mat y) r l := by
  pointwise [centreT, avgT, sumT, Spec.centre, Spec.count]

theorem spreadT_apply (c : FVec Ideal S200x128 .f32) (r : Fin 200) (z : Fin 1) :
    spreadT c (ix2 r z) = Spec.spread (mat c) r := by
  pointwise [spreadT, avgT, sumT, Spec.spread, Spec.count, Spec.tiny]

theorem scaleT_apply (c : FVec Ideal S200x128 .f32) (w : FVec Ideal S200x1 .f32) (g : FVec Ideal S128 .f32) (r : Fin 200)
    (l : Fin 128) : scaleT c w g (ix2 r l) = c (ix2 r l) * Ideal.rsqrt (w (ix2 r 0)) * g (ix1 l) := by
  pointwise [scaleT, rowT]

theorem peakT_apply (s : FVec Ideal S200x200 .f32) (r : Fin 200) (z : Fin 1) :
    peakT s (ix2 r z) = Spec.peak (mat s) r := by
  pointwise [peakT, Spec.peak]

theorem scoreT_apply (q k : FVec Ideal S200x16 .f32) (bias : FVec Ideal S200x200 .f32) (r l : Fin 200) :
    scoreT q k bias (ix2 r l) = (∑ d : Fin 16, q (ix2 r d) * k (ix2 l d)) * Spec.quarter + bias (ix2 r l) := by
  pointwise [scoreT, Spec.quarter]

theorem mixT_apply (e : FVec Ideal S200x200 .f32) (v : FVec Ideal S200x16 .f32) (r : Fin 200) (d : Fin 16) :
    mixT e v (ix2 r d) = ∑ k : Fin 200, Ideal.div (e (ix2 r k)) (∑ j : Fin 200, e (ix2 r j)) * v (ix2 k d) := by
  pointwise [mixT]

theorem expoT_apply (s : FVec Ideal S200x200 .f32) (p : FVec Ideal S200x1 .f32) (r k : Fin 200) :
    expoT s p (ix2 r k) = Ideal.exp (s (ix2 r k) - p (ix2 r 0)) := by
  pointwise [expoT]

theorem qkvT_apply (x : FVec Ideal S200x128 .f32) (w : Vec Ideal S1x128x384 .f32) (b : Vec Ideal S1x384 .f32) (r : Fin 200)
    (j : Fin 384) : qkvT x w b (ix2 r j) = (∑ k : Fin 128, x (ix2 r k) * w (ix3 0 k j)) + b (ix2 0 j) := by
  pointwise [qkvT]

theorem outT_apply (x a : FVec Ideal S200x128 .f32) (w : Vec Ideal S1x128x128 .f32) (b : Vec Ideal S1x128 .f32) (r : Fin 200)
    (j : Fin 128) : outT x a w b (ix2 r j) = x (ix2 r j) + ((∑ k : Fin 128, a (ix2 r k) * w (ix3 0 k j)) + b (ix2 0 j)) := by
  pointwise [outT, rowT, flatT]

theorem mlpT_apply (y : FVec Ideal S200x128 .f32) (w1 : Vec Ideal S1x128x512 .f32) (b1 : Vec Ideal S1x512 .f32)
    (w2 : Vec Ideal S1x512x128 .f32) (b2 : Vec Ideal S1x128 .f32) (r : Fin 200) (j : Fin 128) :
    mlpT y w1 b1 w2 b2 (ix2 r j) = y (ix2 r j) + ((∑ f : Fin 512,
      max ((∑ k : Fin 128, y (ix2 r k) * w1 (ix3 0 k f)) + b1 (ix2 0 f)) 0 * w2 (ix3 0 f j)) + b2 (ix2 0 j)) := by
  pointwise [mlpT, rowT, flatT]

theorem rowT_apply (v : FVec Ideal S128 .f32) (r : Fin 200) (l : Fin 128) : rowT v (ix2 r l) = v (ix1 l) := by
  pointwise [rowT]

theorem flatT_apply (v : Vec Ideal S1x128 .f32) (l : Fin 128) : flatT v (ix1 l) = v (ix2 0 l) := by
  pointwise [flatT]

theorem colsT_apply (o : Nat) (x : FVec Ideal S200x128 .f32) (h : S200x128.Slices ![0, o] S200x16) (r : Fin 200) (d : Fin 16)
    (hd : o + d < 128) : colsT o x h (ix2 r d) = x (ix2 r ⟨o + d, hd⟩) := by
  pointwise [colsT]

theorem thirdT_apply (o : Nat) (x : FVec Ideal S200x384 .f32) (h : S200x384.Slices ![0, o] S200x128) (r : Fin 200) (l : Fin 128)
    (hl : o + l < 384) : thirdT o x h (ix2 r l) = x (ix2 r ⟨o + l, hl⟩) := by
  pointwise [thirdT]

/-- A choice whose two arms are both `t` is `t`. -/
theorem dite_both {α : Type} {c : Prop} [Decidable c] {a : c → α} {b : ¬c → α} {t : α} (ha : ∀ h, a h = t)
    (hb : ∀ h, b h = t) : dite c a b = t := by
  by_cases h : c
  · rw [dif_pos h]; exact ha h
  · rw [dif_neg h]; exact hb h

theorem joinT_apply (f : Fin 8 → Spec.Mat 200 16) (a0 a1 a2 a3 a4 a5 a6 a7 : FVec Ideal S200x16 .f32)
    (h0 : mat a0 = f 0) (h1 : mat a1 = f 1) (h2 : mat a2 = f 2) (h3 : mat a3 = f 3)
    (h4 : mat a4 = f 4) (h5 : mat a5 = f 5) (h6 : mat a6 = f 6) (h7 : mat a7 = f 7) (r : Fin 200) (l : Fin 128) :
    joinT a0 a1 a2 a3 a4 a5 a6 a7 (ix2 r l) = f ⟨l / 16, by omega⟩ r ⟨l % 16, by omega⟩ := by
  have key : ∀ (n : Fin 8) (d : Fin 16), (l : Nat) = 16 * n + d →
      f n r d = f ⟨l / 16, by omega⟩ r ⟨l % 16, by omega⟩ := fun n d e => by
    have e1 : (⟨l / 16, by omega⟩ : Fin 8) = n := Fin.ext (by show (l : Nat) / 16 = n; omega)
    have e2 : (⟨l % 16, by omega⟩ : Fin 16) = d := Fin.ext (by show (l : Nat) % 16 = d; omega)
    rw [e1, e2]
  have H := fun (a : FVec Ideal S200x16 .f32) (n : Fin 8) (h : mat a = f n) (d : Fin 16) (e : (l : Nat) = 16 * n + d) =>
    (congrFun (congrFun h r) d).trans (key n d e)
  pointwise [joinT]
  refine dite_both (fun h => H a0 0 h0 ⟨_, _⟩ (by simp)) (fun h => ?_)
  refine dite_both (fun h => H a1 1 h1 ⟨_, _⟩ (by simp; omega)) (fun h => ?_)
  refine dite_both (fun h => H a2 2 h2 ⟨_, _⟩ (by simp; omega)) (fun h => ?_)
  refine dite_both (fun h => H a3 3 h3 ⟨_, _⟩ (by simp; omega)) (fun h => ?_)
  refine dite_both (fun h => H a4 4 h4 ⟨_, _⟩ (by simp; omega)) (fun h => ?_)
  refine dite_both (fun h => H a5 5 h5 ⟨_, _⟩ (by simp; omega)) (fun h => ?_)
  refine dite_both (fun h => H a6 6 h6 ⟨_, _⟩ (by simp; omega)) (fun h => ?_)
  exact H a7 7 h7 ⟨_, by omega⟩ (by simp; omega)

theorem bias_apply (v : BitVec 32) (q k : Fin 200) :
    k0_pay3 (F := Ideal) v (ix2 q k) = Spec.bias v q k := by
  pointwise [k0_pay3, Spec.bias]

theorem lastT_apply (v : BitVec 32) (x : FVec Ideal S200x128 .f32) (z w : Fin 1) (l : Fin 128) :
    lastT (F := Ideal) v x (ix3 z w l) = Spec.last v (mat x) l := by
  pointwise [lastT, Spec.last]

theorem firstT_apply (e : Vec Ideal S1x200x128 .f32) (p : Vec Ideal S200x128 .f32) (r : Fin 200) (l : Fin 128) :
    (addf (shapeCast S200x128 e shapeCasts_S1x200x128_S200x128) p : FVec Ideal S200x128 .f32) (ix2 r l)
    = e (ix3 0 r l) + p (ix2 r l) := by
  pointwise []

/-! ## The pieces as matrices -/

/-- A rank-one vector as a function. -/
abbrev vec {n : Nat} (x : FVec Ideal ⟨1, ![n]⟩ .f32) : Fin n → EReal := fun l => x (ix1 l)
/-- One parameter row as a function. -/
abbrev row {n : Nat} (x : FVec Ideal ⟨2, ![1, n]⟩ .f32) : Fin n → EReal := fun l => x (ix2 0 l)
/-- One layer's weight as a matrix. -/
abbrev slab {n k : Nat} (x : FVec Ideal ⟨3, ![1, n, k]⟩ .f32) : Spec.Mat n k := fun r l => x (ix3 0 r l)

theorem mat_centreT (y : FVec Ideal S200x128 .f32) : mat (centreT y) = Spec.centre (mat y) := by
  funext r l; exact centreT_apply y r l

theorem mat_normT (y : FVec Ideal S200x128 .f32) (g b : Vec Ideal S1x128 .f32) :
    mat (normT y (flatT g) (flatT b)) = Spec.norm (mat y) (row g) (row b) := by
  funext r l
  show scaleT (centreT y) (spreadT (centreT y)) (flatT g) (ix2 r l) + rowT (flatT b) (ix2 r l) = _
  rw [scaleT_apply, rowT_apply, flatT_apply, flatT_apply, spreadT_apply, centreT_apply, mat_centreT]
  rfl

theorem mat_qkvT (x : FVec Ideal S200x128 .f32) (w : Vec Ideal S1x128x384 .f32) (b : Vec Ideal S1x384 .f32) :
    mat (qkvT x w b) = Spec.qkv (mat x) (slab w) (row b) := by
  funext r l; exact qkvT_apply x w b r l

theorem mat_outT (x a : FVec Ideal S200x128 .f32) (w : Vec Ideal S1x128x128 .f32) (b : Vec Ideal S1x128 .f32) :
    mat (outT x a w b) = Spec.out (mat x) (mat a) (slab w) (row b) := by
  funext r l; exact outT_apply x a w b r l

theorem mat_mlpT (y : FVec Ideal S200x128 .f32) (w1 : Vec Ideal S1x128x512 .f32) (b1 : Vec Ideal S1x512 .f32)
    (w2 : Vec Ideal S1x512x128 .f32) (b2 : Vec Ideal S1x128 .f32) :
    mat (mlpT y w1 b1 w2 b2) = Spec.mlp (mat y) (slab w1) (row b1) (slab w2) (row b2) := by
  funext r l; exact mlpT_apply y w1 b1 w2 b2 r l

/-- A head's columns of a third of the projection. -/
theorem cols_third (p : FVec Ideal S200x384 .f32) (o t : Nat) (n : Fin 8) (hn : o = 16 * n) (ht : t + 128 ≤ 384)
    (ho : S200x128.Slices ![0, o] S200x16) (hs : S200x384.Slices ![0, t] S200x128) (r : Fin 200) (d : Fin 16) :
    colsT o (thirdT t p hs) ho (ix2 r d) = mat p r (Spec.col t ht n d) := by
  rw [colsT_apply o _ ho r d (by omega), thirdT_apply t p hs r _ (by show t + (o + d) < 384; omega)]
  subst hn; rfl

/-- The head whose columns start at `16 * n` is head `n`. -/
theorem mat_headAtT (p : FVec Ideal S200x384 .f32) (bias : FVec Ideal S200x200 .f32) (o : Nat) (n : Fin 8) (hn : o = 16 * n)
    (ho : S200x128.Slices ![0, o] S200x16) :
    mat (headAtT o ho (thirdT 0 p slices_S200x384_o0_0_S200x128) (thirdT 128 p slices_S200x384_o0_128_S200x128)
      (thirdT 256 p slices_S200x384_o0_256_S200x128) bias)
    = Spec.mix (Spec.expo (Spec.score (mat p) (mat bias) n)) (mat p) n := by
  have hs : mat (scoreT (colsT o (thirdT 0 p slices_S200x384_o0_0_S200x128) ho)
      (colsT o (thirdT 128 p slices_S200x384_o0_128_S200x128) ho) bias) = Spec.score (mat p) (mat bias) n := by
    funext q k
    show scoreT _ _ _ (ix2 q k) = _
    rw [scoreT_apply]
    simp only [cols_third p o _ n hn (by omega : 0 + 128 ≤ 384), cols_third p o _ n hn (by omega : 128 + 128 ≤ 384)]
    rfl
  funext q d
  show mixT _ _ (ix2 q d) = _
  rw [mixT_apply]
  simp only [expoT_apply, peakT_apply, hs, cols_third p o _ n hn (by omega : 256 + 128 ≤ 384)]
  unfold Spec.mix Spec.expo
  rw [← hs]

theorem mat_headsT (p : FVec Ideal S200x384 .f32) (bias : FVec Ideal S200x200 .f32) :
    mat (headsT p bias) = Spec.heads (mat p) (mat bias) := by
  funext r l
  have H := mat_headAtT p bias
  exact joinT_apply (fun n => Spec.mix (Spec.expo (Spec.score (mat p) (mat bias) n)) (mat p) n) _ _ _ _ _ _ _ _
    (H 0 0 rfl _) (H 16 1 rfl _) (H 32 2 rfl _) (H 48 3 rfl _) (H 64 4 rfl _) (H 80 5 rfl _) (H 96 6 rfl _)
    (H 112 7 rfl _) r l

theorem mat_layerT (x : FVec Ideal S200x128 .f32) (bias : FVec Ideal S200x200 .f32) (wq : Vec Ideal S1x128x384 .f32)
    (bq : Vec Ideal S1x384 .f32) (wo : Vec Ideal S1x128x128 .f32) (bo g1 b1 : Vec Ideal S1x128 .f32)
    (w1 : Vec Ideal S1x128x512 .f32) (c1 : Vec Ideal S1x512 .f32) (w2 : Vec Ideal S1x512x128 .f32)
    (c2 g2 b2 : Vec Ideal S1x128 .f32) :
    mat (layerT x bias wq bq wo bo g1 b1 w1 c1 w2 c2 g2 b2)
    = Spec.layer (mat x) (mat bias) (slab wq) (row bq) (slab wo) (row bo) (row g1) (row b1) (slab w1) (row c1) (slab w2)
        (row c2) (row g2) (row b2) := by
  unfold layerT Spec.layer
  rw [mat_normT, mat_mlpT, mat_normT, mat_outT, mat_headsT, mat_qkvT]

theorem mat_bias (v : BitVec 32) : mat (k0_pay3 (F := Ideal) v) = Spec.bias v := by
  funext q k; exact bias_apply v q k

theorem mat_firstT (e : Vec Ideal S1x200x128 .f32) (p : Vec Ideal S200x128 .f32) (g b : Vec Ideal S1x128 .f32) :
    mat (firstT e p g b) = Spec.norm (fun r l => e (ix3 0 r l) + p (ix2 r l)) (row g) (row b) := by
  unfold firstT
  rw [mat_normT]
  congr 1
  funext r l; exact firstT_apply e p r l

end Cert.KernelIdeal.Tile
end
-- ==== Proof.RowValue.lean ====
module

public import proofs.«01_k».proof.Proof.TileRun
public import proofs.«01_k».proof.Proof.TileSpec

/-! # One grid point's row, entry by entry

The block a grid point leaves is the answer of the specification, read off the point's blocks. -/

@[expose] public section

noncomputable section

namespace Cert.KernelIdeal.Tile

open Cert.KernelIdeal Cert.KernelIdeal.Gen Idealize.ShloMosaic

/-- A layer's matrix, loaded off the stacked weights, is that layer's page of them. -/
theorem slab_ld {n k : Nat} (x : FVec Ideal ⟨3, ![2, n, k]⟩ .f32) (L : Fin 2) (o : Nat) (ho : o = L.val)
    (h : ∀ a, (![o, 0, 0] : Fin 3 → Nat) a + (![1, n, k] : Fin 3 → Nat) a ≤ (![2, n, k] : Fin 3 → Nat) a) :
    slab (View.ld (S := ⟨3, ![2, n, k]⟩) (Val := Elt Ideal) (e' := .f32) x (Rect.unit (s := ⟨3, ![2, n, k]⟩) ![o, 0, 0] ![1, n, k] h))
      = fun r l => x (ix3 L r l) := by
  funext r l
  show x _ = x _
  congr 1
  funext a
  refine Fin.ext ?_
  subst ho
  match a with
  | ⟨0, _⟩ => show L.val + 1 * 0 = L.val; omega
  | ⟨1, _⟩ => show 0 + 1 * r.val = r.val; omega
  | ⟨2, _⟩ => show 0 + 1 * l.val = l.val; omega

/-- A layer's vector, loaded off the stacked vectors, is that layer's row of them. -/
theorem row_ld {k : Nat} (x : FVec Ideal ⟨2, ![2, k]⟩ .f32) (L : Fin 2) (o : Nat) (ho : o = L.val)
    (h : ∀ a, (![o, 0] : Fin 2 → Nat) a + (![1, k] : Fin 2 → Nat) a ≤ (![2, k] : Fin 2 → Nat) a) :
    row (View.ld (S := ⟨2, ![2, k]⟩) (Val := Elt Ideal) (e' := .f32) x (Rect.unit (s := ⟨2, ![2, k]⟩) ![o, 0] ![1, k] h))
      = fun l => x (ix2 L l) := by
  funext l
  show x _ = x _
  congr 1
  funext a
  refine Fin.ext ?_
  subst ho
  match a with
  | ⟨0, _⟩ => show L.val + 1 * 0 = L.val; omega
  | ⟨1, _⟩ => show 0 + 1 * l.val = l.val; omega

theorem rowOut_apply (v : BitVec 32) (x0 : Vec Ideal S1x200x128 .f32) (x1 : Vec Ideal S200x128 .f32)
    (x2 x3 : Vec Ideal S1x128 .f32) (x4 : Vec Ideal S2x128x384 .f32) (x5 : Vec Ideal S2x384 .f32)
    (x6 : Vec Ideal S2x128x128 .f32) (x7 x8 x9 : Vec Ideal S2x128 .f32) (x10 : Vec Ideal S2x128x512 .f32)
    (x11 : Vec Ideal S2x512 .f32) (x12 : Vec Ideal S2x512x128 .f32) (x13 x14 x15 : Vec Ideal S2x128 .f32)
    (z w : Fin 1) (l : Fin 128) :
    rowOut v x0 x1 x2 x3 x4 x5 x6 x7 x8 x9 x10 x11 x12 x13 x14 x15 (ix3 z w l)
    = Spec.answer v (fun r l => x0 (ix3 0 r l)) (fun r l => x1 (ix2 r l)) (row x2) (row x3)
        (fun i r l => x4 (ix3 i r l)) (Spec.rows x5) (fun i r l => x6 (ix3 i r l)) (Spec.rows x7) (Spec.rows x8)
        (Spec.rows x9) (fun i r l => x10 (ix3 i r l)) (Spec.rows x11) (fun i r l => x12 (ix3 i r l)) (Spec.rows x13)
        (Spec.rows x14) (Spec.rows x15) l := by
  unfold rowOut
  rw [lastT_apply, mat_layerT, mat_layerT, mat_firstT, mat_bias]
  have e4_0 : slab (View.ld x4 (Rect.unit ![0, 0, 0] S1x128x384.size inb_S2x128x384_S1x128x384_0_0_0))
      = fun r l => x4 (ix3 0 r l) := slab_ld x4 0 0 rfl _
  have e4_1 : slab (View.ld x4 (Rect.unit ![1, 0, 0] S1x128x384.size inb_S2x128x384_S1x128x384_1_0_0))
      = fun r l => x4 (ix3 1 r l) := slab_ld x4 1 1 rfl _
  have e5_0 : row (View.ld x5 (Rect.unit ![0, 0] S1x384.size inb_S2x384_S1x384_0_0)) = fun l => x5 (ix2 0 l) :=
    row_ld x5 0 0 rfl _
  have e5_1 : row (View.ld x5 (Rect.unit ![1, 0] S1x384.size inb_S2x384_S1x384_1_0)) = fun l => x5 (ix2 1 l) :=
    row_ld x5 1 1 rfl _
  have e6_0 : slab (View.ld x6 (Rect.unit ![0, 0, 0] S1x128x128.size inb_S2x128x128_S1x128x128_0_0_0))
      = fun r l => x6 (ix3 0 r l) := slab_ld x6 0 0 rfl _
  have e6_1 : slab (View.ld x6 (Rect.unit ![1, 0, 0] S1x128x128.size inb_S2x128x128_S1x128x128_1_0_0))
      = fun r l => x6 (ix3 1 r l) := slab_ld x6 1 1 rfl _
  have e7_0 : row (View.ld x7 (Rect.unit ![0, 0] S1x128.size inb_S2x128_S1x128_0_0)) = fun l => x7 (ix2 0 l) :=
    row_ld x7 0 0 rfl _
  have e7_1 : row (View.ld x7 (Rect.unit ![1, 0] S1x128.size inb_S2x128_S1x128_1_0)) = fun l => x7 (ix2 1 l) :=
    row_ld x7 1 1 rfl _
  have e8_0 : row (View.ld x8 (Rect.unit ![0, 0] S1x128.size inb_S2x128_S1x128_0_0)) = fun l => x8 (ix2 0 l) :=
    row_ld x8 0 0 rfl _
  have e8_1 : row (View.ld x8 (Rect.unit ![1, 0] S1x128.size inb_S2x128_S1x128_1_0)) = fun l => x8 (ix2 1 l) :=
    row_ld x8 1 1 rfl _
  have e9_0 : row (View.ld x9 (Rect.unit ![0, 0] S1x128.size inb_S2x128_S1x128_0_0)) = fun l => x9 (ix2 0 l) :=
    row_ld x9 0 0 rfl _
  have e9_1 : row (View.ld x9 (Rect.unit ![1, 0] S1x128.size inb_S2x128_S1x128_1_0)) = fun l => x9 (ix2 1 l) :=
    row_ld x9 1 1 rfl _
  have e10_0 : slab (View.ld x10 (Rect.unit ![0, 0, 0] S1x128x512.size inb_S2x128x512_S1x128x512_0_0_0))
      = fun r l => x10 (ix3 0 r l) := slab_ld x10 0 0 rfl _
  have e10_1 : slab (View.ld x10 (Rect.unit ![1, 0, 0] S1x128x512.size inb_S2x128x512_S1x128x512_1_0_0))
      = fun r l => x10 (ix3 1 r l) := slab_ld x10 1 1 rfl _
  have e11_0 : row (View.ld x11 (Rect.unit ![0, 0] S1x512.size inb_S2x512_S1x512_0_0)) = fun l => x11 (ix2 0 l) :=
    row_ld x11 0 0 rfl _
  have e11_1 : row (View.ld x11 (Rect.unit ![1, 0] S1x512.size inb_S2x512_S1x512_1_0)) = fun l => x11 (ix2 1 l) :=
    row_ld x11 1 1 rfl _
  have e12_0 : slab (View.ld x12 (Rect.unit ![0, 0, 0] S1x512x128.size inb_S2x512x128_S1x512x128_0_0_0))
      = fun r l => x12 (ix3 0 r l) := slab_ld x12 0 0 rfl _
  have e12_1 : slab (View.ld x12 (Rect.unit ![1, 0, 0] S1x512x128.size inb_S2x512x128_S1x512x128_1_0_0))
      = fun r l => x12 (ix3 1 r l) := slab_ld x12 1 1 rfl _
  have e13_0 : row (View.ld x13 (Rect.unit ![0, 0] S1x128.size inb_S2x128_S1x128_0_0)) = fun l => x13 (ix2 0 l) :=
    row_ld x13 0 0 rfl _
  have e13_1 : row (View.ld x13 (Rect.unit ![1, 0] S1x128.size inb_S2x128_S1x128_1_0)) = fun l => x13 (ix2 1 l) :=
    row_ld x13 1 1 rfl _
  have e14_0 : row (View.ld x14 (Rect.unit ![0, 0] S1x128.size inb_S2x128_S1x128_0_0)) = fun l => x14 (ix2 0 l) :=
    row_ld x14 0 0 rfl _
  have e14_1 : row (View.ld x14 (Rect.unit ![1, 0] S1x128.size inb_S2x128_S1x128_1_0)) = fun l => x14 (ix2 1 l) :=
    row_ld x14 1 1 rfl _
  have e15_0 : row (View.ld x15 (Rect.unit ![0, 0] S1x128.size inb_S2x128_S1x128_0_0)) = fun l => x15 (ix2 0 l) :=
    row_ld x15 0 0 rfl _
  have e15_1 : row (View.ld x15 (Rect.unit ![1, 0] S1x128.size inb_S2x128_S1x128_1_0)) = fun l => x15 (ix2 1 l) :=
    row_ld x15 1 1 rfl _
  rw [e4_0, e4_1, e5_0, e5_1, e6_0, e6_1, e7_0, e7_1, e8_0, e8_1, e9_0, e9_1, e10_0, e10_1, e11_0, e11_1, e12_0, e12_1, e13_0, e13_1, e14_0, e14_1, e15_0, e15_1]
  rfl

/-- A point whose blocks are read off the arguments at batch entry `b` leaves that entry's row of the answers. -/
theorem rowOut_result (b : Fin 1024) (v : BitVec 32) (x0 : Vec Ideal S1x200x128 .f32) (x1 : Vec Ideal S200x128 .f32)
    (x2 x3 : Vec Ideal S1x128 .f32) (x4 : Vec Ideal S2x128x384 .f32) (x5 : Vec Ideal S2x384 .f32)
    (x6 : Vec Ideal S2x128x128 .f32) (x7 x8 x9 : Vec Ideal S2x128 .f32) (x10 : Vec Ideal S2x128x512 .f32)
    (x11 : Vec Ideal S2x512 .f32) (x12 : Vec Ideal S2x512x128 .f32) (x13 x14 x15 : Vec Ideal S2x128 .f32)
    (a0 : FVec Ideal S1024x200x128 .f32) (a1 : IVec S1024 32) (a2 : FVec Ideal S200x128 .f32) (a3 a4 : FVec Ideal S128 .f32)
    (a5 : FVec Ideal S2x384x128 .f32) (a6 : FVec Ideal S2x384 .f32) (a8 a9 a10 : FVec Ideal S2x128 .f32)
    (a12 : FVec Ideal S2x512 .f32) (a14 a15 a16 : FVec Ideal S2x128 .f32) (a7 : FVec Ideal S2x128x128 .f32) (a11 : FVec Ideal S2x512x128 .f32)
    (a13 : FVec Ideal S2x128x512 .f32) (hv : v = a1 (ix1 b)) (h0 : ∀ r l, x0 (ix3 0 r l) = a0 (ix3 b r l))
    (h1 : x1 = a2) (h5 : x5 = a6) (h7 : x7 = a8) (h8 : x8 = a9) (h9 : x9 = a10) (h11 : x11 = a12) (h13 : x13 = a14)
    (h14 : x14 = a15) (h15 : x15 = a16) (h2 : ∀ l, x2 (ix2 0 l) = a3 (ix1 l)) (h3 : ∀ l, x3 (ix2 0 l) = a4 (ix1 l))
    (h4 : ∀ i r l, x4 (ix3 i r l) = a5 (ix3 i l r)) (h6 : ∀ i r l, x6 (ix3 i r l) = a7 (ix3 i l r))
    (h10 : ∀ i r l, x10 (ix3 i r l) = a11 (ix3 i l r)) (h12 : ∀ i r l, x12 (ix3 i r l) = a13 (ix3 i l r))
    (z w : Fin 1) (l : Fin 128) :
    rowOut v x0 x1 x2 x3 x4 x5 x6 x7 x8 x9 x10 x11 x12 x13 x14 x15 (ix3 z w l)
    = Spec.result a0 a1 a2 a3 a4 a5 a6 a7 a8 a9 a10 a11 a12 a13 a14 a15 a16 (ix2 b l) := by
  subst h1 h5 h7 h8 h9 h11 h13 h14 h15
  rw [rowOut_apply]
  have e0 : (fun r l => x0 (ix3 0 r l)) = fun r l => a0 (ix3 b r l) := by funext r l; exact h0 r l
  have e2 : row x2 = fun l => a3 (ix1 l) := by funext l; exact h2 l
  have e3 : row x3 = fun l => a4 (ix1 l) := by funext l; exact h3 l
  have e4 : (fun i r l => x4 (ix3 i r l)) = Spec.turns a5 := by funext i r l; exact h4 i r l
  have e6 : (fun i r l => x6 (ix3 i r l)) = Spec.turns a7 := by funext i r l; exact h6 i r l
  have e10 : (fun i r l => x10 (ix3 i r l)) = Spec.turns a11 := by funext i r l; exact h10 i r l
  have e12 : (fun i r l => x12 (ix3 i r l)) = Spec.turns a13 := by funext i r l; exact h12 i r l
  rw [hv, e0, e2, e3, e4, e6, e10, e12]
  rfl

end Cert.KernelIdeal.Tile
-- ==== Proof.Assemble.lean ====
module

public import proofs.«01_k».proof.Proof.Blocks
public import proofs.«01_k».proof.Proof.RowValue
public import Idealize.ShloMosaic.Lib.Quiescent

/-! # What the kernel leaves

Every grid point writes back one row of the answers, the rows tile the output array, and the reshape after
the launch reads them as the result. -/

@[expose] public section

noncomputable section

namespace Cert.KernelIdeal.Tile

open Cert.KernelIdeal Cert.KernelIdeal.Gen Idealize.ShloMosaic Idealize.SL.Sem

variable (m : (ℓ : Loc nD τ sig) → Buf (Elt Ideal) ℓ) (ρ : Dev nD → PrngReg)

/-- The batch's answers from the arguments a launch finds in memory. -/
def target (c : Dev nD) : FVec Ideal S1024x128 .f32 :=
  Spec.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16))

theorem turned {n k : Nat} (x : FVec Ideal ⟨3, ![2, n, k]⟩ .f32) (h : (⟨3, ![2, n, k]⟩ : Shape).Transposes [0, 2, 1] ⟨3, ![2, k, n]⟩)
    (i : Fin 2) (r : Fin k) (l : Fin n) :
    transpose (⟨3, ![2, k, n]⟩ : Shape) [0, 2, 1] x h (ix3 i r l) = x (ix3 i l r) :=
  transpose_apply _ x h (ix3 i r l) (ix3 i l r) fun a => by fin_cases a <;> rfl

theorem flat_row (x : FVec Ideal S128 .f32) (l : Fin 128) :
    shapeCast S1x128 x shapeCasts_S128_S1x128 (ix2 0 l) = x (ix1 l) := by
  pointwise

/-- Point `t` leaves row `t` of the answers. -/
theorem point_value (hO : Ok m) (c : Dev nD) (t : Fin (cfgM m hO).N) (z w : Fin 1) (l : Fin 128) :
    outsAt0 m hO c t (ix3 z w l) = target m c (ix2 ⟨t.val, point_lt m hO t⟩ l) := by
  unfold outsAt0
  refine (congrFun (out_eq c _ _ _ _ _ _ _ _ _ _ _ _ _ _ _ _ _ _ _ _ _ _ _ _ _ _ _ _ _ _ _ _ _ _ _ _ _ _ _ _ _ _ _ _ _ _ _ _ _ _ _ _) (ix3 z w l)).trans ?_
  exact rowOut_result ⟨t.val, point_lt m hO t⟩ _ _ _ _ _ _ _ _ _ _ _ _ _ _ _ _ _
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg8))
    (m ((c.tc : Thread nD τ).loc main_arg9))
    (m ((c.tc : Thread nD τ).loc main_arg10))
    (m ((c.tc : Thread nD τ).loc main_arg12))
    (m ((c.tc : Thread nD τ).loc main_arg14))
    (m ((c.tc : Thread nD τ).loc main_arg15))
    (m ((c.tc : Thread nD τ).loc main_arg16))
    (m ((c.tc : Thread nD τ).loc main_arg7))
    (m ((c.tc : Thread nD τ).loc main_arg11))
    (m ((c.tc : Thread nD τ).loc main_arg13))
    (word m hO c t) (block0 m hO c t)
    ((block1 m hO c t).trans (V_main_arg2 m c))
    ((block5 m hO c t).trans (V_main_arg6 m c))
    ((block7 m hO c t).trans (V_main_arg8 m c))
    ((block8 m hO c t).trans (V_main_arg9 m c))
    ((block9 m hO c t).trans (V_main_arg10 m c))
    ((block11 m hO c t).trans (V_main_arg12 m c))
    ((block13 m hO c t).trans (V_main_arg14 m c))
    ((block14 m hO c t).trans (V_main_arg15 m c))
    ((block15 m hO c t).trans (V_main_arg16 m c))
    (fun l => (congrFun ((block2 m hO c t).trans (V_v4 m c)) (ix2 0 l)).trans (flat_row _ l))
    (fun l => (congrFun ((block3 m hO c t).trans (V_v5 m c)) (ix2 0 l)).trans (flat_row _ l))
    (fun i r l => (congrFun ((block4 m hO c t).trans (V_v0 m c)) (ix3 i r l)).trans (turned _ _ i r l))
    (fun i r l => (congrFun ((block6 m hO c t).trans (V_v1 m c)) (ix3 i r l)).trans (turned _ _ i r l))
    (fun i r l => (congrFun ((block10 m hO c t).trans (V_v2 m c)) (ix3 i r l)).trans (turned _ _ i r l))
    (fun i r l => (congrFun ((block12 m hO c t).trans (V_v3 m c)) (ix3 i r l)).trans (turned _ _ i r l))
    z w l

/-- The output array: each batch entry's row of the answers on a page of its own. -/
def pages (c : Dev nD) : FVec Ideal S1024x1x128 .f32 := fun i => target m c (ix2 (i 0) (i 2))

theorem flushed_eq (hO : Ok m) (c : Dev nD) (t : Fin (cfgM m hO).N) :
    (dats m hO 0 c).flushed 16 t = (((cfgM m hO).win 16).blk t).view.read (Elt Ideal) (pages m c) := by
  show ((cfgM m hO).win 16).cut (grid0.coords t) ((dats m hO 0 c).after 16 t) = _
  rw [after0_16]
  suffices h : ∀ j : S1x1x128.Idx, outsAt0 m hO c t j = pages m c ((((cfgM m hO).win 16).rect t).emb j) from funext h
  intro j
  obtain ⟨z, w, l, rfl⟩ : ∃ (z w : Fin 1) (l : Fin 128), j = ix3 z w l := ⟨j 0, j 1, j 2, by
    funext a
    match a with
    | ⟨0, _⟩ => rfl
    | ⟨1, _⟩ => rfl
    | ⟨2, _⟩ => rfl⟩
  rw [point_value]
  show target m c _ = target m c _
  congr 1
  have hz : z.val = 0 := by omega
  have e0 := Pipeline.Window.rect_emb_val ((cfgM m hO).win 16) t (ix3 z w l) ⟨0, (by omega : 0 < 3)⟩
  have e2 := Pipeline.Window.rect_emb_val ((cfgM m hO).win 16) t (ix3 z w l) ⟨2, (by omega : 2 < 3)⟩
  funext a
  refine Fin.ext ?_
  match a with
  | ⟨0, _⟩ =>
    refine Eq.trans ?_ e0.symm
    show t.val = cc0_transform_16 (grid0.coords t) 0 * 1 + z.val
    rw [transform_16]; omega
  | ⟨1, _⟩ =>
    refine Eq.trans ?_ e2.symm
    show l.val = 0 * 128 + l.val
    omega

theorem cover (hO : Ok m) (i : S1024x1x128.Idx) :
    ∃ t : Fin (cfgM m hO).N, ((cfgM m hO).win 16).flush t = true ∧ i ∈ (((cfgM m hO).win 16).blk t).view.set := by
  have h0 : (i 0).val < 1024 := (i 0).isLt
  have h1 : (i 1).val < 1 := (i 1).isLt
  have h2 : (i 2).val < 128 := (i 2).isLt
  let t : Fin grid0.N := ⟨(i 0).val, by rw [N_0]; exact h0⟩
  refine ⟨t, flush0_16 (adm m hO) t, ?_⟩
  show i ∈ ((View.whole main_v6).slice (((cfgM m hO).win 16).rect t)).set
  refine (congrArg (i ∈ ·) (View.set_slice_whole main_v6 (((cfgM m hO).win 16).rect t))).mpr ?_
  refine Rect.mem_set_unit.mpr fun a => ?_
  match a with
  | ⟨0, _⟩ =>
    show cc0_transform_16 (grid0.coords t) 0 * 1 ≤ (i 0).val ∧ (i 0).val < cc0_transform_16 (grid0.coords t) 0 * 1 + 1
    rw [transform_16]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

theorem final (hO : Ok m) (c : Dev nD) : (dats m hO 0 c).arrAt 16 (cfgM m hO).N = pages m c :=
  (dats m hO 0 c).arrAt_eq_of_cover 16 (pages m c) (fun t _ => flushed_eq m hO c t) (cover m hO)

theorem reshaped (c : Dev nD) : shapeCast S1024x128 (pages m c) shapeCasts_S1024x1x128_S1024x128 = target m c := by
  funext i
  obtain ⟨b, l, rfl⟩ : ∃ (b : Fin 1024) (l : Fin 128), i = ix2 b l := ⟨i 0, i 1, by
    funext a
    match a with
    | ⟨0, _⟩ => rfl
    | ⟨1, _⟩ => rfl⟩
  pointwise [pages]

/-- The buffer the program returns, after the reshape that follows the launch. -/
theorem result_value (hO : Ok m) (c : Dev nD) :
    Pipeline.afterTail pcfgs (fun _ => adm m hO) (dats m hO) 0 (V0 m) [hostOps1] c main_v7 = target m c := by
  unfold Pipeline.afterTail
  simp only [hostOps1, List.flatten_cons, List.flatten_nil, List.append_nil]
  after_results
  have hw : Pipeline.withArrays spec0 c (V0 m c) (fun w => (dats m hO 0 c).arrAt w (cfgM m hO).N) (Proc.devRef .tc main_v6)
      = pages m c :=
    (Pipeline.withArrays_arr spec0 (by decide) c (V0 m c) (fun w => (dats m hO 0 c).arrAt w (cfgM m hO).N) 16).trans
      (final m hO c)
  exact (congrArg (fun x : FVec Ideal S1024x1x128 .f32 => shapeCast S1024x128 x shapeCasts_S1024x1x128_S1024x128) hw).trans
    (reshaped m c)

/-- Every run ends with the answers in the returned buffer, and the arguments as they were. -/
theorem run : θ_run defs (onTc (τ := τ) (main (F := Ideal))) ⟨m, fun _ => 0, ρ⟩ fun r => ∀ c : Dev nD,
      r.2.mem ((c.tc : Thread nD τ).loc main_v7) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨((h.1 c).2 main_v7 (by decide : main_v7 ∈ Pipeline.restRefs sig spec0)).trans (result_value m (ok m) c), h.2 c⟩)
    (θ_run_and (run_main m ρ (ok m)) (unchanged m ρ (ok m)))

end Cert.KernelIdeal.Tile
-- ==== Proof.Batch.lean ====
module

public import proofs.«01_k».proof.Proof.Gen.ReferenceIdeal.Run

/-! # The reference's functions on the whole batch

The reference's layer norm, projection, attention and perceptron, each once, written with the
operations the reference prints; every named value of its run is one of these by computation. -/

@[expose] public section

noncomputable section

namespace Cert.ReferenceIdeal.Batch

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

/-- The sum of each row of features. -/
def sumB (y : FVec F S1024x200x128 .f32) : FVec F S1024x200x1 .f32 :=
  broadcastInDim S1024x200x1 ![0, 1] bcast_S1024x200_S1024x200x1_0_1
    (Host.reduceAdd y (constant S_ .f32 0x00000000#32) reducesTo_S1024x200x128_S1024x200_d2 h_S_)

/-- A column spread over the features. -/
def wideB (s : FVec F S1024x200x1 .f32) : FVec F S1024x200x128 .f32 :=
  broadcastInDim S1024x200x128 ![0, 1, 2] bcast_S1024x200x1_S1024x200x128_0_1_2 s

/-- Each row less its mean. -/
def centreB (y : FVec F S1024x200x128 .f32) : FVec F S1024x200x128 .f32 :=
  subf y (wideB (Host.divf (sumB y) (broadcastInDim S1024x200x1 ![] bcast_S_S1024x200x1 (constant S_ .f32 0x43000000#32))))

/-- The variance's divisor. -/
def freeB : FVec F S_ .f32 := subf (constant S_ .f32 0x43000000#32) (sitofp .f32 (constantI S_ 32 0#32))

/-- The variance of each row, plus the small constant. -/
def spreadB (c : FVec F S1024x200x128 .f32) : FVec F S1024x200x1 .f32 :=
  addf (select (broadcastInDim S1024x200x1 ![] bcast_S_S1024x200x1 (cmpf .ogt (freeB (F := F)) (constant S_ .f32 0x00000000#32)))
      (Host.divf (sumB (mulf c c)) (broadcastInDim S1024x200x1 ![] bcast_S_S1024x200x1 (freeB (F := F))))
      (broadcastInDim S1024x200x1 ![] bcast_S_S1024x200x1 (id (constant S_ .f32 0x7FC00000#32))))
    (broadcastInDim S1024x200x1 ![] bcast_S_S1024x200x1 (constant S_ .f32 0x3727C5AC#32))

/-- A parameter vector spread over the batch. -/
def paramB (v : FVec F S128 .f32) : FVec F S1024x200x128 .f32 :=
  broadcastInDim S1024x200x128 ![0, 1, 2] bcast_S1x1x128_S1024x200x128_0_1_2
    (broadcastInDim S1x1x128 ![2] bcast_S128_S1x1x128_2 v)

/-- A layer norm. -/
def normB (y : FVec F S1024x200x128 .f32) (g b : FVec F S128 .f32) : FVec F S1024x200x128 .f32 :=
  addf (mulf (Host.divf (centreB y) (wideB (Host.sqrt (spreadB (centreB y))))) (paramB g)) (paramB b)

/-- The embeddings plus the positions. -/
def startB (e : FVec F S1024x200x128 .f32) (p : FVec F S200x128 .f32) : FVec F S1024x200x128 .f32 :=
  addf e (broadcastInDim S1024x200x128 ![0, 1, 2] bcast_S1x200x128_S1024x200x128_0_1_2
    (broadcastInDim S1x200x128 ![1, 2] bcast_S200x128_S1x200x128_1_2 p))

/-- The mask. -/
def maskB (n : IVec S1024 32) : FVec F S1024x1x200x200 .f32 :=
  broadcastInDim S1024x1x200x200 ![0, 2, 3] bcast_S1024x200x200_S1024x1x200x200_0_2_3 (select (ori (broadcastInDim S1024x200x200 ![0, 1, 2] bcast_S1x200x200_S1024x200x200_0_1_2 (broadcastInDim S1x200x200 ![1, 2] bcast_S200x200_S1x200x200_1_2 (select (cmpi .sge (addi (iotaInDim S200x200 32 0) (broadcastInDim S200x200 ![] bcast_S_S200x200 (constantI S_ 32 0#32))) (iotaInDim S200x200 32 1)) (broadcastInDim S200x200 ![] bcast_S_S200x200 (constantI S_ 1 0#1)) (broadcastInDim S200x200 ![] bcast_S_S200x200 (constantI S_ 1 1#1))))) (broadcastInDim S1024x200x200 ![0, 1, 2] bcast_S1024x1x200_S1024x200x200_0_1_2 (broadcastInDim S1024x1x200 ![0, 2] bcast_S1024x200_S1024x1x200_0_2 (cmpi .sge (broadcastInDim S1024x200 ![0, 1] bcast_S1x200_S1024x200_0_1 (broadcastInDim S1x200 ![1] bcast_S200_S1x200_1 (iotaInDim S200 32 0))) (broadcastInDim S1024x200 ![0, 1] bcast_S1024x1_S1024x200_0_1 (broadcastInDim S1024x1 ![0] bcast_S1024_S1024x1_0 n)))))) (broadcastInDim S1024x200x200 ![] bcast_S_S1024x200x200 (constant S_ .f32 0xCE6E6B28#32)) (broadcastInDim S1024x200x200 ![] bcast_S_S1024x200x200 (constant S_ .f32 0x00000000#32)))

/-- The projection to queries, keys and values. -/
def qkvB (x : FVec F S1024x200x128 .f32) (w : FVec F S1x384x128 .f32) (b : FVec F S1x384 .f32) : FVec F S1024x200x384 .f32 :=
  addf (Host.dotGeneral dot_S1024x200x128_S128x384_S1024x200x384_2_0_01_1_n_n none x
      (transpose S128x384 [1, 0] (shapeCast _ w shapeCasts_S1x384x128_S384x128) transposes_S384x128_S128x384_1_0))
    (broadcastInDim S1024x200x384 ![0, 1, 2] bcast_S1x1x384_S1024x200x384_0_1_2
      (broadcastInDim S1x1x384 ![2] bcast_S384_S1x1x384_2 (shapeCast _ b shapeCasts_S1x384_S384)))

/-- One third of the projection, cut into heads. -/
def splitB (x : FVec F S1024x200x128 .f32) : FVec F S1024x8x200x16 .f32 :=
  transpose S1024x8x200x16 [0, 2, 1, 3] (shapeCast _ x shapeCasts_S1024x200x128_S1024x200x8x16)
    transposes_S1024x200x8x16_S1024x8x200x16_0_2_1_3

/-- All heads' scores, scaled and masked. -/
def scoreB (p : FVec F S1024x200x384 .f32) (bias : FVec F S1024x1x200x200 .f32) : FVec F S1024x8x200x200 .f32 :=
  addf (Host.divf (Host.dotGeneral dot_S1024x8x200x16_S1024x8x16x200_S1024x8x200x200_3_2_2_3_01_01 none
      (splitB (extractStridedSlice S1024x200x128 ![0, 0, 0] p slices_S1024x200x384_S1024x200x128_0_0_0))
      (transpose S1024x8x16x200 [0, 1, 3, 2]
        (splitB (extractStridedSlice S1024x200x128 ![0, 0, 128] p slices_S1024x200x384_S1024x200x128_0_0_128))
        transposes_S1024x8x200x16_S1024x8x16x200_0_1_3_2))
      (broadcastInDim S1024x8x200x200 ![] bcast_S_S1024x8x200x200 (constant S_ .f32 0x40800000#32)))
    (broadcastInDim S1024x8x200x200 ![0, 1, 2, 3] bcast_S1024x1x200x200_S1024x8x200x200_0_1_2_3 bias)

/-- A value per row of scores spread over the row. -/
def rowsB (s : FVec F S1024x8x200 .f32) : FVec F S1024x8x200x200 .f32 :=
  broadcastInDim S1024x8x200x200 ![0, 1, 2, 3] bcast_S1024x8x200x1_S1024x8x200x200_0_1_2_3
    (broadcastInDim S1024x8x200x1 ![0, 1, 2] bcast_S1024x8x200_S1024x8x200x1_0_1_2 s)

/-- Exponentials of the scores less the row's peak. -/
def expoB (s : FVec F S1024x8x200x200 .f32) : FVec F S1024x8x200x200 .f32 :=
  Host.exp (subf s (rowsB (maximumf (broadcastInDim S1024x8x200 ![] bcast_S_S1024x8x200 (constant S_ .f32 0xFF800000#32))
    (Host.reduce FloatOps.maximumf s (constant S_ .f32 0xFF800000#32) reducesTo_S1024x8x200x200_S1024x8x200_d3 h_S_))))

/-- The normalised weights times the values, the heads put back side by side. -/
def headsB (e : FVec F S1024x8x200x200 .f32) (p : FVec F S1024x200x384 .f32) : FVec F S1024x200x128 .f32 :=
  shapeCast _ (transpose S1024x200x8x16 [0, 2, 1, 3]
    (Host.dotGeneral dot_S1024x8x200x200_S1024x8x200x16_S1024x8x200x16_3_2_2_3_01_01 none
      (Host.divf e (rowsB (Host.reduceAdd e (constant S_ .f32 0x00000000#32) reducesTo_S1024x8x200x200_S1024x8x200_d3 h_S_)))
      (splitB (extractStridedSlice S1024x200x128 ![0, 0, 256] p slices_S1024x200x384_S1024x200x128_0_0_256)))
    transposes_S1024x8x200x16_S1024x200x8x16_0_2_1_3) shapeCasts_S1024x200x8x16_S1024x200x128

/-- The output projection and the residual. -/
def outB (x a : FVec F S1024x200x128 .f32) (w : FVec F S1x128x128 .f32) (b : FVec F S1x128 .f32) : FVec F S1024x200x128 .f32 :=
  addf x (addf (Host.dotGeneral dot_S1024x200x128_S128x128_S1024x200x128_2_0_01_1_n_n none a
    (transpose S128x128 [1, 0] (shapeCast _ w shapeCasts_S1x128x128_S128x128) transposes_S128x128_S128x128_1_0))
    (paramB (shapeCast _ b shapeCasts_S1x128_S128)))

/-- The perceptron and the residual. -/
def mlpB (y : FVec F S1024x200x128 .f32) (w1 : FVec F S1x512x128 .f32) (b1 : FVec F S1x512 .f32) (w2 : FVec F S1x128x512 .f32)
    (b2 : FVec F S1x128 .f32) : FVec F S1024x200x128 .f32 :=
  addf y (addf (Host.dotGeneral dot_S1024x200x512_S512x128_S1024x200x128_2_0_01_1_n_n none
      (maximumf (addf (Host.dotGeneral dot_S1024x200x128_S128x512_S1024x200x512_2_0_01_1_n_n none y
          (transpose S128x512 [1, 0] (shapeCast _ w1 shapeCasts_S1x512x128_S512x128) transposes_S512x128_S128x512_1_0))
        (broadcastInDim S1024x200x512 ![0, 1, 2] bcast_S1x1x512_S1024x200x512_0_1_2
          (broadcastInDim S1x1x512 ![2] bcast_S512_S1x1x512_2 (shapeCast _ b1 shapeCasts_S1x512_S512))))
        (broadcastInDim S1024x200x512 ![] bcast_S_S1024x200x512 (constant S_ .f32 0x00000000#32)))
      (transpose S512x128 [1, 0] (shapeCast _ w2 shapeCasts_S1x128x512_S128x512) transposes_S128x512_S512x128_1_0))
    (paramB (shapeCast _ b2 shapeCasts_S1x128_S128)))

/-- One layer. -/
def layerB (x : FVec F S1024x200x128 .f32) (bias : FVec F S1024x1x200x200 .f32) (wq : FVec F S1x384x128 .f32)
    (bq : FVec F S1x384 .f32) (wo : FVec F S1x128x128 .f32) (bo g1 b1 : FVec F S1x128 .f32) (w1 : FVec F S1x512x128 .f32)
    (c1 : FVec F S1x512 .f32) (w2 : FVec F S1x128x512 .f32) (c2 g2 b2 : FVec F S1x128 .f32) : FVec F S1024x200x128 .f32 :=
  normB (mlpB (normB (outB x (headsB (expoB (scoreB (qkvB x wq bq) bias)) (qkvB x wq bq)) wo bo)
    (shapeCast _ g1 shapeCasts_S1x128_S128) (shapeCast _ b1 shapeCasts_S1x128_S128)) w1 c1 w2 c2)
    (shapeCast _ g2 shapeCasts_S1x128_S128) (shapeCast _ b2 shapeCasts_S1x128_S128)

/-- The row numbers the final gather reads. -/
def whereB (n : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt (subi n (broadcastInDim S1024 ![] bcast_S_S1024 (constantI S_ 32 1#32))) (broadcastInDim S1024 ![] bcast_S_S1024 (constantI S_ 32 0#32))) (addi (subi n (broadcastInDim S1024 ![] bcast_S_S1024 (constantI S_ 32 1#32))) (broadcastInDim S1024 ![] bcast_S_S1024 (constantI S_ 32 200#32))) (subi n (broadcastInDim S1024 ![] bcast_S_S1024 (constantI S_ 32 1#32)))))⟩] concatenates_S1024x1_S1024x1_S1024x2_d1

/-- The last valid row of every sequence. -/
def lastB (x : FVec F S1024x200x128 .f32) (n : IVec S1024 32) : FVec F S1024x128 .f32 :=
  Host.gather gather_S1024x200x128_S1024x2_S1024x128_1_01_n_n_01_1_11128 x (whereB n)

section
variable (V : Valuation τ sig (Elt F))

theorem v21_eq : res_main_v21 V = normB (startB (V (Proc.devRef .tc main_arg0)) (V (Proc.devRef .tc main_arg2)))
    (V (Proc.devRef .tc main_arg3)) (V (Proc.devRef .tc main_arg4)) := rfl
theorem v35_eq : res_main_v35 V = maskB (V (Proc.devRef .tc main_arg1)) := rfl
theorem v44_eq : res_main_v44 V = qkvB (res_main_v21 V)
    (extractStridedSlice S1x384x128 ![0, 0, 0] (V (Proc.devRef .tc main_arg5)) slices_S2x384x128_S1x384x128_0_0_0)
    (extractStridedSlice S1x384 ![0, 0] (V (Proc.devRef .tc main_arg6)) slices_S2x384_S1x384_0_0) := rfl
theorem v59_eq : res_main_v59 V = scoreB (res_main_v44 V) (res_main_v35 V) := rfl
theorem v66_eq : res_main_v66 V = expoB (res_main_v59 V) := rfl
theorem v83_eq : res_main_v83 V = outB (res_main_v21 V) (headsB (res_main_v66 V) (res_main_v44 V))
    (extractStridedSlice S1x128x128 ![0, 0, 0] (V (Proc.devRef .tc main_arg7)) slices_S2x128x128_S1x128x128_0_0_0)
    (extractStridedSlice S1x128 ![0, 0] (V (Proc.devRef .tc main_arg8)) slices_S2x128_S1x128_0_0) := rfl
theorem v105_eq : res_main_v105 V = normB (res_main_v83 V)
    (shapeCast _ (extractStridedSlice S1x128 ![0, 0] (V (Proc.devRef .tc main_arg9)) slices_S2x128_S1x128_0_0) shapeCasts_S1x128_S128)
    (shapeCast _ (extractStridedSlice S1x128 ![0, 0] (V (Proc.devRef .tc main_arg10)) slices_S2x128_S1x128_0_0) shapeCasts_S1x128_S128) := rfl
theorem v125_eq : res_main_v125 V = mlpB (res_main_v105 V)
    (extractStridedSlice S1x512x128 ![0, 0, 0] (V (Proc.devRef .tc main_arg11)) slices_S2x512x128_S1x512x128_0_0_0)
    (extractStridedSlice S1x512 ![0, 0] (V (Proc.devRef .tc main_arg12)) slices_S2x512_S1x512_0_0)
    (extractStridedSlice S1x128x512 ![0, 0, 0] (V (Proc.devRef .tc main_arg13)) slices_S2x128x512_S1x128x512_0_0_0)
    (extractStridedSlice S1x128 ![0, 0] (V (Proc.devRef .tc main_arg14)) slices_S2x128_S1x128_0_0) := rfl
theorem v147_eq : res_main_v147 V = normB (res_main_v125 V)
    (shapeCast _ (extractStridedSlice S1x128 ![0, 0] (V (Proc.devRef .tc main_arg15)) slices_S2x128_S1x128_0_0) shapeCasts_S1x128_S128)
    (shapeCast _ (extractStridedSlice S1x128 ![0, 0] (V (Proc.devRef .tc main_arg16)) slices_S2x128_S1x128_0_0) shapeCasts_S1x128_S128) := rfl
theorem v156_eq : res_main_v156 V = qkvB (res_main_v147 V)
    (extractStridedSlice S1x384x128 ![1, 0, 0] (V (Proc.devRef .tc main_arg5)) slices_S2x384x128_S1x384x128_1_0_0)
    (extractStridedSlice S1x384 ![1, 0] (V (Proc.devRef .tc main_arg6)) slices_S2x384_S1x384_1_0) := rfl
theorem v171_eq : res_main_v171 V = scoreB (res_main_v156 V) (res_main_v35 V) := rfl
theorem v178_eq : res_main_v178 V = expoB (res_main_v171 V) := rfl
theorem v195_eq : res_main_v195 V = outB (res_main_v147 V) (headsB (res_main_v178 V) (res_main_v156 V))
    (extractStridedSlice S1x128x128 ![1, 0, 0] (V (Proc.devRef .tc main_arg7)) slices_S2x128x128_S1x128x128_1_0_0)
    (extractStridedSlice S1x128 ![1, 0] (V (Proc.devRef .tc main_arg8)) slices_S2x128_S1x128_1_0) := rfl
theorem v217_eq : res_main_v217 V = normB (res_main_v195 V)
    (shapeCast _ (extractStridedSlice S1x128 ![1, 0] (V (Proc.devRef .tc main_arg9)) slices_S2x128_S1x128_1_0) shapeCasts_S1x128_S128)
    (shapeCast _ (extractStridedSlice S1x128 ![1, 0] (V (Proc.devRef .tc main_arg10)) slices_S2x128_S1x128_1_0) shapeCasts_S1x128_S128) := rfl
theorem v237_eq : res_main_v237 V = mlpB (res_main_v217 V)
    (extractStridedSlice S1x512x128 ![1, 0, 0] (V (Proc.devRef .tc main_arg11)) slices_S2x512x128_S1x512x128_1_0_0)
    (extractStridedSlice S1x512 ![1, 0] (V (Proc.devRef .tc main_arg12)) slices_S2x512_S1x512_1_0)
    (extractStridedSlice S1x128x512 ![1, 0, 0] (V (Proc.devRef .tc main_arg13)) slices_S2x128x512_S1x128x512_1_0_0)
    (extractStridedSlice S1x128 ![1, 0] (V (Proc.devRef .tc main_arg14)) slices_S2x128_S1x128_1_0) := rfl
end

end Cert.ReferenceIdeal.Batch
end
-- ==== Proof.BatchSpec.lean ====
module

public import proofs.«01_k».proof.Proof.Batch
public import proofs.«01_k».proof.Proof.Spec
public import Idealize.ShloMosaic.Lib.Pointwise
public import Idealize.ShloMosaic.Lib.IdealHost

/-! # The reference's functions, entry by entry -/

@[expose] public section

noncomputable section

namespace Cert.ReferenceIdeal.Batch

open Cert.ReferenceIdeal Cert.ReferenceIdeal.Gen Idealize.ShloMosaic

/-- One batch row of a rank-three array as a matrix. -/
abbrev page {n k : Nat} (x : FVec Ideal ⟨3, ![1024, n, k]⟩ .f32) (b : Fin 1024) : Spec.Mat n k := fun r l => x (ix3 b r l)

/-- The feature count is 128. -/
theorem ofBits_count : Ideal.ofBits .f32 0x43000000#32 = ((128 : ℝ) : EReal) := by
  simp [Ideal.ofBits, Ideal.ieee, -EReal.coe_mul]; norm_num

/-- The negation of "at least" is "greater than" the other way round. -/
theorem select_not_ge (a b : BitVec 32) :
    Scalar.select (IntOp.cmpi .sge (IntOp.addi a 0#32) b) (0#1) (1#1) = IntOp.cmpi .sgt b a := by
  have h : IntOp.addi a 0#32 = a := by simp [IntOp.addi]
  rw [h]
  unfold IntOp.cmpi Scalar.select
  simp only [BitVec.sle_eq_not_slt]
  cases a.slt b <;> decide

/-- The peak of one row of scores. -/
theorem peak_apply (s : FVec Ideal S1024x8x200x200 .f32) (b : Fin 1024) (h : Fin 8) (q : Fin 200) :
    (Host.reduce FloatOps.maximumf s (constant S_ .f32 0xFF800000#32) reducesTo_S1024x8x200x200_S1024x8x200_d3 h_S_ :
      FVec Ideal S1024x8x200 .f32) (ix3 b h q) = Spec.peak (fun q k => s (ix4 b h q k)) q := by
  pointwise [Spec.peak]

/-- The exponential of a score less a number of its row. -/
theorem expo_apply (s : FVec Ideal S1024x8x200x200 .f32) (t : FVec Ideal S1024x8x200 .f32) (b : Fin 1024) (h : Fin 8)
    (q k : Fin 200) :
    Host.exp (subf s (rowsB (maximumf (broadcastInDim S1024x8x200 ![] bcast_S_S1024x8x200 (constant S_ .f32 0xFF800000#32)) t)))
      (ix4 b h q k) = Ideal.exp (s (ix4 b h q k) - max (Ideal.ofBits .f32 0xFF800000#32) (t (ix3 b h q))) := by
  pointwise [rowsB]

theorem centreB_apply (y : FVec Ideal S1024x200x128 .f32) (b : Fin 1024) (r : Fin 200) (l : Fin 128) :
    centreB y (ix3 b r l) = Spec.centre (page y b) r l := by
  pointwise [centreB, wideB, sumB, Spec.centre, Spec.count]

theorem spreadB_apply (c : FVec Ideal S1024x200x128 .f32) (b : Fin 1024) (r : Fin 200) (z : Fin 1) :
    spreadB c (ix3 b r z) = Spec.spread (page c b) r := by
  pointwise [spreadB, sumB, freeB, Spec.spread, Spec.count, Spec.tiny]
  have h0 : (FloatOps.sitofp .f32 0#32 : Ideal .f32) = (0 : EReal) := by
    show (((0#32 : BitVec 32).toInt : ℝ) : EReal) = 0
    simp
  rw [h0, sub_zero, if_pos (by rw [ofBits_count]; exact EReal.coe_pos.mpr (by norm_num))]

theorem normB_apply (y : FVec Ideal S1024x200x128 .f32) (g h : FVec Ideal S128 .f32) (b : Fin 1024) (r : Fin 200) (l : Fin 128) :
    normB y g h (ix3 b r l) = Ideal.div (centreB y (ix3 b r l)) (Ideal.sqrt (spreadB (centreB y) (ix3 b r 0))) * g (ix1 l) + h (ix1 l) := by
  pointwise [normB, wideB, paramB]

theorem startB_apply (e : FVec Ideal S1024x200x128 .f32) (p : FVec Ideal S200x128 .f32) (b : Fin 1024) (r : Fin 200) (l : Fin 128) :
    startB e p (ix3 b r l) = e (ix3 b r l) + p (ix2 r l) := by
  pointwise [startB]

theorem maskB_apply (n : IVec S1024 32) (b : Fin 1024) (z : Fin 1) (q k : Fin 200) :
    maskB (F := Ideal) n (ix4 b z q k) = Spec.bias (n (ix1 b)) q k := by
  pointwise [maskB, Spec.bias]
  rw [select_not_ge]

theorem qkvB_apply (x : FVec Ideal S1024x200x128 .f32) (w : FVec Ideal S1x384x128 .f32) (v : FVec Ideal S1x384 .f32)
    (b : Fin 1024) (r : Fin 200) (j : Fin 384) :
    qkvB x w v (ix3 b r j) = (∑ k : Fin 128, x (ix3 b r k) * w (ix3 0 j k)) + v (ix2 0 j) := by
  pointwise [qkvB]

theorem scoreB_apply (p : FVec Ideal S1024x200x384 .f32) (bias : FVec Ideal S1024x1x200x200 .f32) (b : Fin 1024) (h : Fin 8)
    (q k : Fin 200) :
    scoreB p bias (ix4 b h q k) = Ideal.div (∑ d : Fin 16, page p b q (Spec.col 0 (by omega) h d) * page p b k (Spec.col 128 (by omega) h d)) (Ideal.ofBits .f32 0x40800000#32) + bias (ix4 b 0 q k) := by
  pointwise [scoreB, splitB]
  refine congrArg₂ (· + ·) (congrArg (Ideal.div · _) (Finset.sum_congr rfl fun d _ => ?_)) rfl
  exact congrArg₂ (· * ·) (congrArg (fun j => p (ix3 b q j)) (Fin.ext (by simp only [Spec.col]; omega)))
    (congrArg (fun j => p (ix3 b k j)) (Fin.ext (by simp only [Spec.col]; omega)))

theorem expoB_apply (s : FVec Ideal S1024x8x200x200 .f32) (b : Fin 1024) (h : Fin 8) (q k : Fin 200) :
    expoB s (ix4 b h q k) = Spec.expo (fun q k => s (ix4 b h q k)) q k := by
  refine (expo_apply s _ b h q k).trans ?_
  rw [peak_apply, max_eq_right]
  · rfl
  · exact (Finset.le_fold_max _).mpr (Or.inl le_rfl)

theorem headsB_apply (e : FVec Ideal S1024x8x200x200 .f32) (p : FVec Ideal S1024x200x384 .f32) (b : Fin 1024) (q : Fin 200)
    (l : Fin 128) :
    headsB e p (ix3 b q l) = Spec.mix (fun q k => e (ix4 b ⟨l / 16, by omega⟩ q k)) (page p b) ⟨l / 16, by omega⟩ q
      ⟨l % 16, by omega⟩ := by
  pointwise [headsB, rowsB, splitB, Spec.mix]
  refine Finset.sum_congr rfl fun k _ => congrArg (_ * ·) (congrArg (fun j => p (ix3 b k j)) (Fin.ext ?_))
  simp only [Spec.col]; omega

theorem outB_apply (x a : FVec Ideal S1024x200x128 .f32) (w : FVec Ideal S1x128x128 .f32) (v : FVec Ideal S1x128 .f32)
    (b : Fin 1024) (r : Fin 200) (j : Fin 128) :
    outB x a w v (ix3 b r j) = x (ix3 b r j) + ((∑ k : Fin 128, a (ix3 b r k) * w (ix3 0 j k)) + v (ix2 0 j)) := by
  pointwise [outB, paramB]

theorem mlpB_apply (y : FVec Ideal S1024x200x128 .f32) (w1 : FVec Ideal S1x512x128 .f32) (b1 : FVec Ideal S1x512 .f32)
    (w2 : FVec Ideal S1x128x512 .f32) (b2 : FVec Ideal S1x128 .f32) (b : Fin 1024) (r : Fin 200) (j : Fin 128) :
    mlpB y w1 b1 w2 b2 (ix3 b r j) = y (ix3 b r j) + ((∑ f : Fin 512,
      max ((∑ k : Fin 128, y (ix3 b r k) * w1 (ix3 0 f k)) + b1 (ix2 0 f)) 0 * w2 (ix3 0 j f)) + b2 (ix2 0 j)) := by
  pointwise [mlpB, paramB]

/-- The first number of a batch row's pair is the row itself. -/
theorem whereB_zero (n : IVec S1024 32) (b : Fin 1024) : whereB n (ix2 b 0) = BitVec.ofNat 32 b := by
  pointwise [whereB]
  have h : IntOp.cmpi .slt (BitVec.ofNat 32 b) 0#32 = 0#1 := by
    unfold IntOp.cmpi
    simp only [BitVec.slt_eq_decide]
    have : (BitVec.ofNat 32 b).toInt = (b : Nat) := by
      rw [BitVec.toInt_eq_toNat_of_lt] <;> simp <;> omega
    rw [this]
    have h0 : ¬ ((b : Nat) : Int) < 0 := by omega
    simp [h0]
  rw [h]; rfl

/-- The second is the length less one, where the length is at least one. -/
theorem whereB_one (n : IVec S1024 32) (b : Fin 1024) (h1 : 1 ≤ (n (ix1 b)).toInt) :
    whereB n (ix2 b 1) = IntOp.subi (n (ix1 b)) 1#32 := by
  pointwise [whereB]
  have h : IntOp.cmpi .slt (IntOp.subi (n (ix1 b)) 1#32) 0#32 = 0#1 := by
    unfold IntOp.cmpi IntOp.subi
    have h2 : 0 ≤ (n (ix1 b) - 1#32).toInt := by
      generalize n (ix1 b) = v at h1
      have := BitVec.toInt_eq_toNat_cond v
      have hv := v.isLt
      rw [BitVec.toInt_sub]
      have h32 : (1#32 : BitVec 32).toInt = 1 := by decide
      rw [h32, Int.bmod_eq_of_le] <;> split at this <;> omega
    simp only [BitVec.slt_eq_decide]
    have : ¬ (n (ix1 b) - 1#32).toInt < (0#32 : BitVec 32).toInt := by simpa using h2
    rw [decide_eq_false this]; rfl
  rw [h]; rfl

/-! ## Square roots -/

/-- Dividing by a square root is multiplying by its reciprocal, for a positive number. -/
theorem div_sqrt {y : EReal} (hy : 0 < y) (a : EReal) : Ideal.div a (Ideal.sqrt y) = a * Ideal.rsqrt y := by
  induction y using EReal.rec with
  | bot => simp at hy
  | top =>
    have h1 : Ideal.sqrt ⊤ = ⊤ := rfl
    have h2 : Ideal.rsqrt ⊤ = 0 := rfl
    rw [h1, h2]
    unfold Ideal.div
    rw [if_neg EReal.top_ne_zero, EReal.inv_top]
  | coe r =>
    have hr : 0 < r := EReal.coe_pos.mp hy
    have hs : Real.sqrt r ≠ 0 := (Real.sqrt_pos.mpr hr).ne'
    rw [Ideal.sqrt_coe, Ideal.rsqrt_coe]
    simp only [not_lt.mpr hr.le, hr.ne', if_false]
    rw [Ideal.div_coe hs, one_div]

/-- Dividing by four is multiplying by a quarter. -/
theorem div_four (a : EReal) : Ideal.div a (Ideal.ofBits .f32 0x40800000#32) = a * Spec.quarter := by
  have h4 : Ideal.ofBits .f32 0x40800000#32 = ((4 : ℝ) : EReal) := by
    simp [Ideal.ofBits, Ideal.ieee, -EReal.coe_mul]; norm_num
  have hq : Spec.quarter = ((1 / 4 : ℝ) : EReal) := by
    unfold Spec.quarter
    simp [Ideal.ofBits, Ideal.ieee, -EReal.coe_mul]; norm_num
  rw [h4, hq, Ideal.div_coe (by norm_num)]

/-- A mean square plus the small constant is positive. -/
theorem spread_pos (c : Spec.Mat 200 128) (r : Fin 200) : 0 < Spec.spread c r := by
  have ht : (0 : EReal) < Spec.tiny := by
    have : Spec.tiny = ((10995116 / 2 ^ 40 : ℝ) : EReal) := by
      unfold Spec.tiny
      simp [Ideal.ofBits, Ideal.ieee, -EReal.coe_mul]; norm_num
    rw [this]; exact EReal.coe_pos.mpr (by norm_num)
  have hs : (0 : EReal) ≤ ∑ k, c r k * c r k := Finset.sum_nonneg fun k _ => by
    rcases le_total 0 (c r k) with h | h
    · exact mul_nonneg h h
    · rw [← neg_mul_neg]; exact mul_nonneg (EReal.neg_nonneg.mpr h) (EReal.neg_nonneg.mpr h)
  unfold Spec.spread Spec.count
  rw [ofBits_count, Ideal.div_coe (by norm_num)]
  exact ht.trans_le (le_add_of_nonneg_left (mul_nonneg hs (EReal.coe_nonneg.mpr (by norm_num))))

/-! ## The functions, batch row by batch row -/

/-- A rank-one array as a function. -/
abbrev vec {n : Nat} (x : FVec Ideal ⟨1, ![n]⟩ .f32) : Fin n → EReal := fun l => x (ix1 l)
/-- One layer's parameter row as a function. -/
abbrev row {n : Nat} (x : FVec Ideal ⟨2, ![1, n]⟩ .f32) : Fin n → EReal := fun l => x (ix2 0 l)
/-- One layer's weight, turned over. -/
abbrev turned {n k : Nat} (x : FVec Ideal ⟨3, ![1, k, n]⟩ .f32) : Spec.Mat n k := fun r l => x (ix3 0 l r)

theorem page_normB (y : FVec Ideal S1024x200x128 .f32) (g h : FVec Ideal S128 .f32) (b : Fin 1024) :
    page (normB y g h) b = Spec.norm (page y b) (vec g) (vec h) := by
  funext r l
  have hc : page (centreB y) b = Spec.centre (page y b) := by funext r l; exact centreB_apply y b r l
  show normB y g h (ix3 b r l) = _
  rw [normB_apply, spreadB_apply, div_sqrt (spread_pos _ _), centreB_apply, hc]
  rfl

theorem vec_flat (v : FVec Ideal S1x128 .f32) :
    vec (shapeCast S128 v shapeCasts_S1x128_S128) = row v := by
  funext l
  show shapeCast S128 v shapeCasts_S1x128_S128 (ix1 l) = v (ix2 0 l)
  pointwise []

theorem page_outB (x a : FVec Ideal S1024x200x128 .f32) (w : FVec Ideal S1x128x128 .f32) (v : FVec Ideal S1x128 .f32)
    (b : Fin 1024) : page (outB x a w v) b = Spec.out (page x b) (page a b) (turned w) (row v) := by
  funext r j; exact outB_apply x a w v b r j

theorem page_mlpB (y : FVec Ideal S1024x200x128 .f32) (w1 : FVec Ideal S1x512x128 .f32) (b1 : FVec Ideal S1x512 .f32)
    (w2 : FVec Ideal S1x128x512 .f32) (b2 : FVec Ideal S1x128 .f32) (b : Fin 1024) :
    page (mlpB y w1 b1 w2 b2) b = Spec.mlp (page y b) (turned w1) (row b1) (turned w2) (row b2) := by
  funext r j; exact mlpB_apply y w1 b1 w2 b2 b r j

theorem page_layerB (x : FVec Ideal S1024x200x128 .f32) (n : IVec S1024 32) (wq : FVec Ideal S1x384x128 .f32)
    (bq : FVec Ideal S1x384 .f32) (wo : FVec Ideal S1x128x128 .f32) (bo g1 b1 : FVec Ideal S1x128 .f32)
    (w1 : FVec Ideal S1x512x128 .f32) (c1 : FVec Ideal S1x512 .f32) (w2 : FVec Ideal S1x128x512 .f32)
    (c2 g2 b2 : FVec Ideal S1x128 .f32) (b : Fin 1024) :
    page (layerB x (maskB n) wq bq wo bo g1 b1 w1 c1 w2 c2 g2 b2) b
    = Spec.layer (page x b) (Spec.bias (n (ix1 b))) (turned wq) (row bq) (turned wo) (row bo) (row g1) (row b1) (turned w1)
        (row c1) (turned w2) (row c2) (row g2) (row b2) := by
  have hq : page (qkvB x wq bq) b = Spec.qkv (page x b) (turned wq) (row bq) := by
    funext r j; exact qkvB_apply x wq bq b r j
  have hs : ∀ h : Fin 8, (fun q k => scoreB (qkvB x wq bq) (maskB n) (ix4 b h q k))
      = Spec.score (Spec.qkv (page x b) (turned wq) (row bq)) (Spec.bias (n (ix1 b))) h := fun h => by
    funext q k
    rw [scoreB_apply, maskB_apply, div_four, hq]
    rfl
  have hh : page (headsB (expoB (scoreB (qkvB x wq bq) (maskB n))) (qkvB x wq bq)) b
      = Spec.heads (Spec.qkv (page x b) (turned wq) (row bq)) (Spec.bias (n (ix1 b))) := by
    funext q l
    show headsB _ _ (ix3 b q l) = _
    have he : ∀ h : Fin 8, (fun q k => expoB (scoreB (qkvB x wq bq) (maskB n)) (ix4 b h q k))
        = Spec.expo (Spec.score (Spec.qkv (page x b) (turned wq) (row bq)) (Spec.bias (n (ix1 b))) h) := fun h => by
      rw [← hs]
      funext q k
      exact expoB_apply _ b h q k
    rw [headsB_apply, hq, he]
    rfl
  unfold layerB Spec.layer
  rw [page_normB, page_mlpB, page_normB, page_outB, hh, vec_flat, vec_flat, vec_flat, vec_flat]

theorem page_startB (e : FVec Ideal S1024x200x128 .f32) (p : FVec Ideal S200x128 .f32) (b : Fin 1024) :
    page (startB e p) b = fun r l => e (ix3 b r l) + p (ix2 r l) := by
  funext r l; exact startB_apply e p b r l

/-! ## The final pick -/

/-- The gather reads, for each batch row, the row whose number is the length less one. -/
theorem lastB_apply (x : FVec Ideal S1024x200x128 .f32) (n : IVec S1024 32) (b : Fin 1024) (l : Fin 128)
    (h1 : 1 ≤ (n (ix1 b)).toInt) (h2 : (n (ix1 b)).toInt ≤ 200) :
    lastB x n (ix2 b l) = x (ix3 b ⟨((n (ix1 b)).toInt - 1).toNat, by omega⟩ l) := by
  have hs : (IntOp.subi (n (ix1 b)) 1#32).toInt = (n (ix1 b)).toInt - 1 := by
    unfold IntOp.subi
    have h32 : (1#32 : BitVec 32).toInt = 1 := by decide
    rw [BitVec.toInt_sub, h32, Int.bmod_eq_of_le] <;> omega
  have hb : (BitVec.ofNat 32 b).toInt = (b : Nat) := by
    rw [BitVec.toInt_eq_toNat_of_lt] <;> simp <;> omega
  unfold lastB Host.gather
  congr 1
  funext a
  refine Fin.ext ?_
  show gather_S1024x200x128_S1024x2_S1024x128_1_01_n_n_01_1_11128.start (ix2 b l) (whereB n) a
      + gather_S1024x200x128_S1024x2_S1024x128_1_01_n_n_01_1_11128.batchCoord (ix2 b l) a
      + gather_S1024x200x128_S1024x2_S1024x128_1_01_n_n_01_1_11128.offCoord (ix2 b l) a = _
  rw [GatherDims.batchCoord_eq_zero _ _ _ List.not_mem_nil]
  have hi0 : gather_S1024x200x128_S1024x2_S1024x128_1_01_n_n_01_1_11128.siIdx (ix2 b l) ⟨0, by decide⟩ = ix2 b 0 := by
    funext c; refine Fin.ext ?_
    match c with
    | ⟨0, _⟩ => rfl
    | ⟨1, _⟩ => rfl
  have hi1 : gather_S1024x200x128_S1024x2_S1024x128_1_01_n_n_01_1_11128.siIdx (ix2 b l) ⟨1, by decide⟩ = ix2 b 1 := by
    funext c; refine Fin.ext ?_
    match c with
    | ⟨0, _⟩ => rfl
    | ⟨1, _⟩ => rfl
  match a with
  | ⟨0, _⟩ =>
    show gather_S1024x200x128_S1024x2_S1024x128_1_01_n_n_01_1_11128.start (ix2 b l) (whereB n) (0 : Fin 3) + 0
      + gather_S1024x200x128_S1024x2_S1024x128_1_01_n_n_01_1_11128.offCoord (ix2 b l) (0 : Fin 3) = (b : Nat)
    rw [GatherDims.offCoord_eq_zero _ _ _ (fun h => ((GatherDims.mem_sKept _ _).mp h).1 (show (0 : Fin 3) ∈ gather_S1024x200x128_S1024x2_S1024x128_1_01_n_n_01_1_11128.collapsedSliceDims by decide))]
    unfold GatherDims.start
    rw [dif_pos (show (0 : Fin 3) ∈ gather_S1024x200x128_S1024x2_S1024x128_1_01_n_n_01_1_11128.startIndexMap by decide)]
    show min (whereB n (gather_S1024x200x128_S1024x2_S1024x128_1_01_n_n_01_1_11128.siIdx (ix2 b l) ⟨0, _⟩)).toInt.toNat (1024 - 1) + 0 + 0 = b
    rw [hi0, whereB_zero, hb]
    omega
  | ⟨1, _⟩ =>
    show gather_S1024x200x128_S1024x2_S1024x128_1_01_n_n_01_1_11128.start (ix2 b l) (whereB n) (1 : Fin 3) + 0
      + gather_S1024x200x128_S1024x2_S1024x128_1_01_n_n_01_1_11128.offCoord (ix2 b l) (1 : Fin 3) = ((n (ix1 b)).toInt - 1).toNat
    rw [GatherDims.offCoord_eq_zero _ _ _ (fun h => ((GatherDims.mem_sKept _ _).mp h).1 (show (1 : Fin 3) ∈ gather_S1024x200x128_S1024x2_S1024x128_1_01_n_n_01_1_11128.collapsedSliceDims by decide))]
    unfold GatherDims.start
    rw [dif_pos (show (1 : Fin 3) ∈ gather_S1024x200x128_S1024x2_S1024x128_1_01_n_n_01_1_11128.startIndexMap by decide)]
    show min (whereB n (gather_S1024x200x128_S1024x2_S1024x128_1_01_n_n_01_1_11128.siIdx (ix2 b l) ⟨1, _⟩)).toInt.toNat (200 - 1) + 0 + 0 = ((n (ix1 b)).toInt - 1).toNat
    rw [hi1, whereB_one n b h1, hs]
    omega
  | ⟨2, _⟩ =>
    show gather_S1024x200x128_S1024x2_S1024x128_1_01_n_n_01_1_11128.start (ix2 b l) (whereB n) (2 : Fin 3) + 0
      + gather_S1024x200x128_S1024x2_S1024x128_1_01_n_n_01_1_11128.offCoord (ix2 b l) (2 : Fin 3) = (l : Nat)
    unfold GatherDims.start
    rw [dif_neg (show (2 : Fin 3) ∉ gather_S1024x200x128_S1024x2_S1024x128_1_01_n_n_01_1_11128.startIndexMap by decide)]
    simp only [Nat.zero_add]
    rfl

/-- The masked sum picks the same row. -/
theorem last_apply (v : BitVec 32) (x : Spec.Mat 200 128) (l : Fin 128) (h1 : 1 ≤ v.toInt) (h2 : v.toInt ≤ 200) :
    Spec.last v x l = x ⟨(v.toInt - 1).toNat, by omega⟩ l := by
  have hs : (Scalar.subi v 1#32).toInt = v.toInt - 1 := by
    show (v - 1#32).toInt = _
    have h32 : (1#32 : BitVec 32).toInt = 1 := by decide
    rw [BitVec.toInt_sub, h32, Int.bmod_eq_of_le] <;> omega
  have hr : ∀ r : Fin 200, (BitVec.ofNat 32 r).toInt = (r : Nat) := fun r => by
    rw [BitVec.toInt_eq_toNat_of_lt] <;> simp <;> omega
  unfold Spec.last
  rw [Finset.sum_eq_single (⟨(v.toInt - 1).toNat, by omega⟩ : Fin 200)]
  · have he : BitVec.ofNat 32 (v.toInt - 1).toNat = Scalar.subi v 1#32 := by
      apply BitVec.eq_of_toInt_eq
      rw [hs, hr ⟨(v.toInt - 1).toNat, by omega⟩]
      simp only []
      omega
    have hb : (BitVec.ofNat 32 ((⟨(v.toInt - 1).toNat, by omega⟩ : Fin 200) : Nat) == Scalar.subi v 1#32) = true := by
      simpa using he
    unfold Scalar.select IntOp.cmpi
    simp only [hb]
    rfl
  · intro r _ hne
    have he : BitVec.ofNat 32 r ≠ Scalar.subi v 1#32 := fun e => hne (Fin.ext (by
      have := congrArg BitVec.toInt e
      rw [hs, hr] at this
      show (r : Nat) = (v.toInt - 1).toNat
      omega))
    have hb : (BitVec.ofNat 32 r == Scalar.subi v 1#32) = false := by simpa using he
    unfold Scalar.select IntOp.cmpi
    simp only [hb]
    rfl
  · intro h; exact absurd (Finset.mem_univ _) h

end Cert.ReferenceIdeal.Batch
end
-- ==== Proof.BatchRow.lean ====
module

public import proofs.«01_k».proof.Proof.BatchSpec

/-! # The reference's result

The reference's run ends with the answers of every sequence, where each length lies in range. -/

@[expose] public section

noncomputable section

namespace Cert.ReferenceIdeal.Batch

open Cert.ReferenceIdeal Cert.ReferenceIdeal.Gen Cert.ReferenceIdeal.Value Idealize.ShloMosaic Idealize.ShloMosaic.TcCoe
  Idealize.SL.Sem Idealize.ShloMosaic.StableHlo

/-! ## Layer slices of the stacked weights -/

theorem turned_q0 (A : FVec Ideal S2x384x128 .f32) :
    turned (extractStridedSlice S1x384x128 ![0, 0, 0] A slices_S2x384x128_S1x384x128_0_0_0) = Spec.turns A 0 := by
  funext l r
  show extractStridedSlice S1x384x128 ![0, 0, 0] A slices_S2x384x128_S1x384x128_0_0_0 (ix3 0 r l) = A (ix3 0 r l)
  pointwise []

theorem turned_o0 (A : FVec Ideal S2x128x128 .f32) :
    turned (extractStridedSlice S1x128x128 ![0, 0, 0] A slices_S2x128x128_S1x128x128_0_0_0) = Spec.turns A 0 := by
  funext l r
  show extractStridedSlice S1x128x128 ![0, 0, 0] A slices_S2x128x128_S1x128x128_0_0_0 (ix3 0 r l) = A (ix3 0 r l)
  pointwise []

theorem turned_u0 (A : FVec Ideal S2x512x128 .f32) :
    turned (extractStridedSlice S1x512x128 ![0, 0, 0] A slices_S2x512x128_S1x512x128_0_0_0) = Spec.turns A 0 := by
  funext l r
  show extractStridedSlice S1x512x128 ![0, 0, 0] A slices_S2x512x128_S1x512x128_0_0_0 (ix3 0 r l) = A (ix3 0 r l)
  pointwise []

theorem turned_d0 (A : FVec Ideal S2x128x512 .f32) :
    turned (extractStridedSlice S1x128x512 ![0, 0, 0] A slices_S2x128x512_S1x128x512_0_0_0) = Spec.turns A 0 := by
  funext l r
  show extractStridedSlice S1x128x512 ![0, 0, 0] A slices_S2x128x512_S1x128x512_0_0_0 (ix3 0 r l) = A (ix3 0 r l)
  pointwise []

theorem row_384_0 (A : FVec Ideal S2x384 .f32) :
    row (extractStridedSlice S1x384 ![0, 0] A slices_S2x384_S1x384_0_0) = Spec.rows A 0 := by
  funext l
  show extractStridedSlice S1x384 ![0, 0] A slices_S2x384_S1x384_0_0 (ix2 0 l) = A (ix2 0 l)
  pointwise []

theorem row_512_0 (A : FVec Ideal S2x512 .f32) :
    row (extractStridedSlice S1x512 ![0, 0] A slices_S2x512_S1x512_0_0) = Spec.rows A 0 := by
  funext l
  show extractStridedSlice S1x512 ![0, 0] A slices_S2x512_S1x512_0_0 (ix2 0 l) = A (ix2 0 l)
  pointwise []

theorem row_128_0 (A : FVec Ideal S2x128 .f32) :
    row (extractStridedSlice S1x128 ![0, 0] A slices_S2x128_S1x128_0_0) = Spec.rows A 0 := by
  funext l
  show extractStridedSlice S1x128 ![0, 0] A slices_S2x128_S1x128_0_0 (ix2 0 l) = A (ix2 0 l)
  pointwise []

theorem turned_q1 (A : FVec Ideal S2x384x128 .f32) :
    turned (extractStridedSlice S1x384x128 ![1, 0, 0] A slices_S2x384x128_S1x384x128_1_0_0) = Spec.turns A 1 := by
  funext l r
  show extractStridedSlice S1x384x128 ![1, 0, 0] A slices_S2x384x128_S1x384x128_1_0_0 (ix3 0 r l) = A (ix3 1 r l)
  pointwise []

theorem turned_o1 (A : FVec Ideal S2x128x128 .f32) :
    turned (extractStridedSlice S1x128x128 ![1, 0, 0] A slices_S2x128x128_S1x128x128_1_0_0) = Spec.turns A 1 := by
  funext l r
  show extractStridedSlice S1x128x128 ![1, 0, 0] A slices_S2x128x128_S1x128x128_1_0_0 (ix3 0 r l) = A (ix3 1 r l)
  pointwise []

theorem turned_u1 (A : FVec Ideal S2x512x128 .f32) :
    turned (extractStridedSlice S1x512x128 ![1, 0, 0] A slices_S2x512x128_S1x512x128_1_0_0) = Spec.turns A 1 := by
  funext l r
  show extractStridedSlice S1x512x128 ![1, 0, 0] A slices_S2x512x128_S1x512x128_1_0_0 (ix3 0 r l) = A (ix3 1 r l)
  pointwise []

theorem turned_d1 (A : FVec Ideal S2x128x512 .f32) :
    turned (extractStridedSlice S1x128x512 ![1, 0, 0] A slices_S2x128x512_S1x128x512_1_0_0) = Spec.turns A 1 := by
  funext l r
  show extractStridedSlice S1x128x512 ![1, 0, 0] A slices_S2x128x512_S1x128x512_1_0_0 (ix3 0 r l) = A (ix3 1 r l)
  pointwise []

theorem row_384_1 (A : FVec Ideal S2x384 .f32) :
    row (extractStridedSlice S1x384 ![1, 0] A slices_S2x384_S1x384_1_0) = Spec.rows A 1 := by
  funext l
  show extractStridedSlice S1x384 ![1, 0] A slices_S2x384_S1x384_1_0 (ix2 0 l) = A (ix2 1 l)
  pointwise []

theorem row_512_1 (A : FVec Ideal S2x512 .f32) :
    row (extractStridedSlice S1x512 ![1, 0] A slices_S2x512_S1x512_1_0) = Spec.rows A 1 := by
  funext l
  show extractStridedSlice S1x512 ![1, 0] A slices_S2x512_S1x512_1_0 (ix2 0 l) = A (ix2 1 l)
  pointwise []

theorem row_128_1 (A : FVec Ideal S2x128 .f32) :
    row (extractStridedSlice S1x128 ![1, 0] A slices_S2x128_S1x128_1_0) = Spec.rows A 1 := by
  funext l
  show extractStridedSlice S1x128 ![1, 0] A slices_S2x128_S1x128_1_0 (ix2 0 l) = A (ix2 1 l)
  pointwise []

/-! ## The two layers and the pick, from any arguments -/

/-- Both layers over the start, and the picked rows, are the answers. -/
theorem answers (a0 : FVec Ideal S1024x200x128 .f32) (a1 : IVec S1024 32) (a2 : FVec Ideal S200x128 .f32)
    (a3 a4 : FVec Ideal S128 .f32) (a5 : FVec Ideal S2x384x128 .f32) (a6 : FVec Ideal S2x384 .f32)
    (a7 : FVec Ideal S2x128x128 .f32) (a8 a9 a10 : FVec Ideal S2x128 .f32) (a11 : FVec Ideal S2x512x128 .f32)
    (a12 : FVec Ideal S2x512 .f32) (a13 : FVec Ideal S2x128x512 .f32) (a14 a15 a16 : FVec Ideal S2x128 .f32)
    (h : ∀ b : Fin 1024, 1 ≤ (a1 (ix1 b)).toInt ∧ (a1 (ix1 b)).toInt ≤ 200) :
    lastB (layerB (layerB (normB (startB a0 a2) a3 a4) (maskB a1)
    (extractStridedSlice S1x384x128 ![0, 0, 0] a5 slices_S2x384x128_S1x384x128_0_0_0)
    (extractStridedSlice S1x384 ![0, 0] a6 slices_S2x384_S1x384_0_0)
    (extractStridedSlice S1x128x128 ![0, 0, 0] a7 slices_S2x128x128_S1x128x128_0_0_0)
    (extractStridedSlice S1x128 ![0, 0] a8 slices_S2x128_S1x128_0_0)
    (extractStridedSlice S1x128 ![0, 0] a9 slices_S2x128_S1x128_0_0)
    (extractStridedSlice S1x128 ![0, 0] a10 slices_S2x128_S1x128_0_0)
    (extractStridedSlice S1x512x128 ![0, 0, 0] a11 slices_S2x512x128_S1x512x128_0_0_0)
    (extractStridedSlice S1x512 ![0, 0] a12 slices_S2x512_S1x512_0_0)
    (extractStridedSlice S1x128x512 ![0, 0, 0] a13 slices_S2x128x512_S1x128x512_0_0_0)
    (extractStridedSlice S1x128 ![0, 0] a14 slices_S2x128_S1x128_0_0)
    (extractStridedSlice S1x128 ![0, 0] a15 slices_S2x128_S1x128_0_0)
    (extractStridedSlice S1x128 ![0, 0] a16 slices_S2x128_S1x128_0_0)) (maskB a1)
    (extractStridedSlice S1x384x128 ![1, 0, 0] a5 slices_S2x384x128_S1x384x128_1_0_0)
    (extractStridedSlice S1x384 ![1, 0] a6 slices_S2x384_S1x384_1_0)
    (extractStridedSlice S1x128x128 ![1, 0, 0] a7 slices_S2x128x128_S1x128x128_1_0_0)
    (extractStridedSlice S1x128 ![1, 0] a8 slices_S2x128_S1x128_1_0)
    (extractStridedSlice S1x128 ![1, 0] a9 slices_S2x128_S1x128_1_0)
    (extractStridedSlice S1x128 ![1, 0] a10 slices_S2x128_S1x128_1_0)
    (extractStridedSlice S1x512x128 ![1, 0, 0] a11 slices_S2x512x128_S1x512x128_1_0_0)
    (extractStridedSlice S1x512 ![1, 0] a12 slices_S2x512_S1x512_1_0)
    (extractStridedSlice S1x128x512 ![1, 0, 0] a13 slices_S2x128x512_S1x128x512_1_0_0)
    (extractStridedSlice S1x128 ![1, 0] a14 slices_S2x128_S1x128_1_0)
    (extractStridedSlice S1x128 ![1, 0] a15 slices_S2x128_S1x128_1_0)
    (extractStridedSlice S1x128 ![1, 0] a16 slices_S2x128_S1x128_1_0)) a1
    = Spec.result a0 a1 a2 a3 a4 a5 a6 a7 a8 a9 a10 a11 a12 a13 a14 a15 a16 := by
  funext i
  obtain ⟨b, l, rfl⟩ : ∃ (b : Fin 1024) (l : Fin 128), i = ix2 b l := ⟨i 0, i 1, by funext a; fin_cases a <;> rfl⟩
  rw [lastB_apply _ _ b l (h b).1 (h b).2]
  refine (last_apply (a1 (ix1 b)) (page _ b) l (h b).1 (h b).2).symm.trans ?_
  rw [page_layerB, page_layerB, page_normB, page_startB]
  rw [turned_q0, turned_q1, turned_o0, turned_o1, turned_u0, turned_u1, turned_d0, turned_d1, row_384_0, row_384_1, row_512_0,
    row_512_1]
  simp only [row_128_0, row_128_1]
  rfl

/-! ## The run's named values -/

section
variable (V : Valuation τ sig (Elt Ideal))

/-- The first layer's result. -/
theorem first_layer : res_main_v147 V = layerB (res_main_v21 V) (maskB (V (Proc.devRef .tc main_arg1)))
    (extractStridedSlice S1x384x128 ![0, 0, 0] (V (Proc.devRef .tc main_arg5)) slices_S2x384x128_S1x384x128_0_0_0)
    (extractStridedSlice S1x384 ![0, 0] (V (Proc.devRef .tc main_arg6)) slices_S2x384_S1x384_0_0)
    (extractStridedSlice S1x128x128 ![0, 0, 0] (V (Proc.devRef .tc main_arg7)) slices_S2x128x128_S1x128x128_0_0_0)
    (extractStridedSlice S1x128 ![0, 0] (V (Proc.devRef .tc main_arg8)) slices_S2x128_S1x128_0_0)
    (extractStridedSlice S1x128 ![0, 0] (V (Proc.devRef .tc main_arg9)) slices_S2x128_S1x128_0_0)
    (extractStridedSlice S1x128 ![0, 0] (V (Proc.devRef .tc main_arg10)) slices_S2x128_S1x128_0_0)
    (extractStridedSlice S1x512x128 ![0, 0, 0] (V (Proc.devRef .tc main_arg11)) slices_S2x512x128_S1x512x128_0_0_0)
    (extractStridedSlice S1x512 ![0, 0] (V (Proc.devRef .tc main_arg12)) slices_S2x512_S1x512_0_0)
    (extractStridedSlice S1x128x512 ![0, 0, 0] (V (Proc.devRef .tc main_arg13)) slices_S2x128x512_S1x128x512_0_0_0)
    (extractStridedSlice S1x128 ![0, 0] (V (Proc.devRef .tc main_arg14)) slices_S2x128_S1x128_0_0)
    (extractStridedSlice S1x128 ![0, 0] (V (Proc.devRef .tc main_arg15)) slices_S2x128_S1x128_0_0)
    (extractStridedSlice S1x128 ![0, 0] (V (Proc.devRef .tc main_arg16)) slices_S2x128_S1x128_0_0) := by
  rw [v147_eq, v125_eq, v105_eq, v83_eq, v66_eq, v59_eq, v44_eq, v35_eq]
  rfl

/-- The second layer's result, from the first's. -/
theorem second_layer : normB (res_main_v237 V)
      (shapeCast _ (extractStridedSlice S1x128 ![1, 0] (V (Proc.devRef .tc main_arg15)) slices_S2x128_S1x128_1_0) shapeCasts_S1x128_S128)
      (shapeCast _ (extractStridedSlice S1x128 ![1, 0] (V (Proc.devRef .tc main_arg16)) slices_S2x128_S1x128_1_0) shapeCasts_S1x128_S128)
    = layerB (res_main_v147 V) (maskB (V (Proc.devRef .tc main_arg1)))
    (extractStridedSlice S1x384x128 ![1, 0, 0] (V (Proc.devRef .tc main_arg5)) slices_S2x384x128_S1x384x128_1_0_0)
    (extractStridedSlice S1x384 ![1, 0] (V (Proc.devRef .tc main_arg6)) slices_S2x384_S1x384_1_0)
    (extractStridedSlice S1x128x128 ![1, 0, 0] (V (Proc.devRef .tc main_arg7)) slices_S2x128x128_S1x128x128_1_0_0)
    (extractStridedSlice S1x128 ![1, 0] (V (Proc.devRef .tc main_arg8)) slices_S2x128_S1x128_1_0)
    (extractStridedSlice S1x128 ![1, 0] (V (Proc.devRef .tc main_arg9)) slices_S2x128_S1x128_1_0)
    (extractStridedSlice S1x128 ![1, 0] (V (Proc.devRef .tc main_arg10)) slices_S2x128_S1x128_1_0)
    (extractStridedSlice S1x512x128 ![1, 0, 0] (V (Proc.devRef .tc main_arg11)) slices_S2x512x128_S1x512x128_1_0_0)
    (extractStridedSlice S1x512 ![1, 0] (V (Proc.devRef .tc main_arg12)) slices_S2x512_S1x512_1_0)
    (extractStridedSlice S1x128x512 ![1, 0, 0] (V (Proc.devRef .tc main_arg13)) slices_S2x128x512_S1x128x512_1_0_0)
    (extractStridedSlice S1x128 ![1, 0] (V (Proc.devRef .tc main_arg14)) slices_S2x128_S1x128_1_0)
    (extractStridedSlice S1x128 ![1, 0] (V (Proc.devRef .tc main_arg15)) slices_S2x128_S1x128_1_0)
    (extractStridedSlice S1x128 ![1, 0] (V (Proc.devRef .tc main_arg16)) slices_S2x128_S1x128_1_0) := by
  rw [v237_eq, v217_eq, v195_eq, v178_eq, v171_eq, v156_eq, v35_eq]
  rfl

/-- The run's result is the answers. -/
theorem last_eq (h : ∀ b : Fin 1024, 1 ≤ ((V (Proc.devRef .tc main_arg1)) (ix1 b)).toInt ∧ ((V (Proc.devRef .tc main_arg1)) (ix1 b)).toInt ≤ 200) :
    lastB (normB (res_main_v237 V)
      (shapeCast _ (extractStridedSlice S1x128 ![1, 0] (V (Proc.devRef .tc main_arg15)) slices_S2x128_S1x128_1_0) shapeCasts_S1x128_S128)
      (shapeCast _ (extractStridedSlice S1x128 ![1, 0] (V (Proc.devRef .tc main_arg16)) slices_S2x128_S1x128_1_0) shapeCasts_S1x128_S128)) (V (Proc.devRef .tc main_arg1))
    = Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [second_layer, first_layer, v21_eq]
  exact answers _ _ _ _ _ _ _ _ _ _ _ _ _ _ _ _ _ h
end

end Cert.ReferenceIdeal.Batch
end
-- ==== Proof.BatchRun.lean ====
module

public import proofs.«01_k».proof.Proof.BatchRow

/-! # What the reference leaves

Under lengths between one and the sequence's extent, a run of the reference returns the specification's
answers, and leaves its arguments as they were. -/

@[expose] public section

noncomputable section

namespace Cert.ReferenceIdeal.Batch

open Cert.ReferenceIdeal Cert.ReferenceIdeal.Gen Idealize.ShloMosaic Idealize.SL.Sem

variable (m : (ℓ : Loc nD τ sig) → Buf (Elt Ideal) ℓ) (ρ : Dev nD → PrngReg)

theorem run (h : ∀ (c : Dev nD) (b : Fin 1024),
      1 ≤ ((m ((c.tc : Thread nD τ).loc main_arg1) : IVec S1024 32) (ix1 b)).toInt
      ∧ ((m ((c.tc : Thread nD τ).loc main_arg1) : IVec S1024 32) (ix1 b)).toInt ≤ 200) :
    θ_run defs (onTc (τ := τ) (main (F := Ideal))) ⟨m, fun _ => 0, ρ⟩ fun r => ∀ c : Dev nD,
      r.2.mem ((c.tc : Thread nD τ).loc main_v276) = Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ g c => ⟨(g c).1.trans (last_eq (StableHlo.launchContents m c) (h c)), (g c).2⟩) (Value.run m ρ)

end Cert.ReferenceIdeal.Batch
-- ==== Proof.Lengths.lean ====
module

public import proofs.«01_k».proof.Proof.Gen.Pre_lengths_in_range
public import Idealize.ShloMosaic.Lib.Affine
public import Idealize.ShloMosaic.Lib.Pointwise

/-! # What the precondition says

Every length lies between one and two hundred. -/

@[expose] public section

noncomputable section

namespace Cert.Lengths

open Idealize.ShloMosaic Cert.Pre_lengths_in_range Cert.Pre_lengths_in_range.Facts

variable [Facts]

/-- A conjunction over a list holds only if every member holds. -/
theorem all_of_fold {ι : Type} (f : ι → BitVec 1) (l : List ι) (b : BitVec 1)
    (h : l.foldl (fun r n => IntOp.andi r (f n)) b = 1#1) : b = 1#1 ∧ ∀ n ∈ l, f n = 1#1 := by
  induction l generalizing b with
  | nil => exact ⟨h, fun n hn => absurd hn List.not_mem_nil⟩
  | cons a l ih =>
    obtain ⟨h1, h2⟩ := ih _ h
    have h3 : b = 1#1 ∧ f a = 1#1 := by
      have key : ∀ x y : BitVec 1, IntOp.andi x y = 1#1 → x = 1#1 ∧ y = 1#1 := by decide
      exact key _ _ h1
    refine ⟨h3.1, fun n hn => ?_⟩
    rcases List.mem_cons.mp hn with rfl | hn
    · exact h3.2
    · exact h2 n hn

/-- The two comparisons of one length. -/
theorem between (v : BitVec 32) (h : IntOp.andi (IntOp.cmpi .sge v 1#32) (IntOp.cmpi .sle v 200#32) = 1#1) :
    1 ≤ v.toInt ∧ v.toInt ≤ 200 := by
  have h1 : (1#32 : BitVec 32).toInt = 1 := by decide
  have h2 : (200#32 : BitVec 32).toInt = 200 := by decide
  have hb : ∀ p q : Bool, IntOp.andi (BitVec.ofBool p) (BitVec.ofBool q) = 1#1 → p = true ∧ q = true := by decide
  obtain ⟨ha, hc⟩ := hb _ _ h
  rw [BitVec.sle_iff_toInt_le] at ha hc
  rw [h1] at ha
  rw [h2] at hc
  exact ⟨ha, hc⟩

/-- The precondition, read at each sequence. -/
theorem range (a0 : FVec Ideal S1024x200x128 .f32) (a1 : IVec S1024 32) (a2 : FVec Ideal S200x128 .f32)
    (a3 a4 : FVec Ideal S128 .f32) (a5 : FVec Ideal S2x384x128 .f32) (a6 : FVec Ideal S2x384 .f32)
    (a7 : FVec Ideal S2x128x128 .f32) (a8 a9 a10 : FVec Ideal S2x128 .f32) (a11 : FVec Ideal S2x512x128 .f32)
    (a12 : FVec Ideal S2x512 .f32) (a13 : FVec Ideal S2x128x512 .f32) (a14 a15 a16 : FVec Ideal S2x128 .f32)
    (h : Cert.Pre_lengths_in_range.fn a0 a1 a2 a3 a4 a5 a6 a7 a8 a9 a10 a11 a12 a13 a14 a15 a16 = fun _ => 1#1) (b : Fin 1024) :
    1 ≤ (a1 (ix1 b)).toInt ∧ (a1 (ix1 b)).toInt ≤ 200 := by
  have hj := congrFun h (fun a => a.elim0)
  unfold Cert.Pre_lengths_in_range.fn Host.reduce at hj
  have hall := (all_of_fold _ _ _ hj).2 (S1024.rowMajor (ix1 b))
    (List.mem_filter.mpr ⟨List.mem_finRange _, decide_eq_true (funext fun a => a.elim0)⟩)
  rw [Equiv.symm_apply_apply] at hall
  exact between _ hall

end Cert.Lengths
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lengths_in_range
public import proofs.«01_k».proof.Proof.Gen.ReferenceIdeal.Run
public import proofs.«01_k».proof.Proof.Assemble
public import proofs.«01_k».proof.Proof.BatchRun
public import proofs.«01_k».proof.Proof.Lengths
public import Idealize.ShloMosaic.Adequacy
public import Idealize.ShloMosaic.Init

@[expose] public section

noncomputable section

namespace Cert.Proof

open Idealize.ShloMosaic Idealize.SL.Sem Cert.Kernel

/-- The kernel's frame: nothing is asked of the lengths. -/
theorem frame_kernel : Cert.quiescent_Kernel (hKernel := Cert.Kernel.Gen.facts) := fun m g _ =>
  Cert.Kernel.Gen.frame m g (by show True; trivial)

/-- The idealized kernel's frame. -/
theorem frame_ideal : Cert.quiescent_KernelIdeal (hKernelIdeal := Cert.KernelIdeal.Gen.facts) := fun m g _ =>
  Cert.KernelIdeal.Gen.frame m g (Cert.KernelIdeal.Tile.ok m)

/-- The reference's frame: its run leaves the arguments, and it has no semaphores. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference both return the specification's answers. -/
theorem same_answers : Cert.algebraic_KernelIdeal_ReferenceIdeal_pre_lengths_in_range
    (hKernelIdeal := Cert.KernelIdeal.Gen.facts) (hReferenceIdeal := Cert.ReferenceIdeal.Gen.facts)
    (hPre_lengths_in_range := Cert.Pre_lengths_in_range.Gen.facts) := by
  intro m g m' g' hpre heq
  refine ⟨fun c => Cert.KernelIdeal.Tile.target m c, Cert.KernelIdeal.Tile.run m g, ?_⟩
  have hrun := Cert.ReferenceIdeal.Batch.run m' g' (fun c b => by
    rw [(heq c).2.1]
    exact Cert.Lengths.range _ _ _ _ _ _ _ _ _ _ _ _ _ _ _ _ _ (hpre c) b)
  refine (θ_run Cert.ReferenceIdeal.defs _ _).mono (fun r h c => ⟨(h c).1.trans ?_, (h c).2⟩) hrun
  obtain ⟨e0, e1, e2, e3, e4, e5, e6, e7, e8, e9, e10, e11, e12, e13, e14, e15, e16⟩ := heq c
  unfold Cert.KernelIdeal.Tile.target
  rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts,
  Cert.Pre_lengths_in_range.Gen.facts, frame_kernel, frame_ideal, fun m g _ => frame_ideal m g trivial, frame_reference,
  fun m g _ => frame_reference m g trivial, trivial, same_answers⟩

end Cert.Proof

end
